-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dy_finite [hPre_dy_finite : Cert.Pre_dy_finite.Facts] (m : (ℓ : Loc Cert.KernelIdeal.nD Cert.KernelIdeal.τ Cert.KernelIdeal.sig) → Buf (Elt Ideal) ℓ) : Prop :=
  ∀ c : Dev Cert.KernelIdeal.nD,
    (Cert.Pre_dy_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dy_finite [hPre_dy_finite : Cert.Pre_dy_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dy_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_dy_finite [hKernelIdeal : Cert.KernelIdeal.Facts] [hPre_dy_finite : Cert.Pre_dy_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dy_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_dy_finite [hReferenceIdeal : Cert.ReferenceIdeal.Facts] [hPre_dy_finite : Cert.Pre_dy_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dy_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_dy_finite [hKernelIdeal : Cert.KernelIdeal.Facts] [hReferenceIdeal : Cert.ReferenceIdeal.Facts] [hPre_dy_finite : Cert.Pre_dy_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dy_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36_0) = v0 c
          ∧ r.2.mem ((c.tc : Thread Cert.ReferenceIdeal.nD Cert.ReferenceIdeal.τ).loc Cert.ReferenceIdeal.main_v36_1) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v36_2) = v3 c
          ∧ r.2.mem ((c.tc : Thread Cert.ReferenceIdeal.nD Cert.ReferenceIdeal.τ).loc Cert.ReferenceIdeal.main_v32) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_dy_finite : Cert.Pre_dy_finite.Facts),
    quiescent_Kernel (hKernel := hKernel)
    ∧ quiescent_KernelIdeal (hKernelIdeal := hKernelIdeal)
    ∧ quiescent_KernelIdeal_pre_dy_finite (hKernelIdeal := hKernelIdeal) (hPre_dy_finite := hPre_dy_finite)
    ∧ quiescent_ReferenceIdeal (hReferenceIdeal := hReferenceIdeal)
    ∧ quiescent_ReferenceIdeal_pre_dy_finite (hReferenceIdeal := hReferenceIdeal) (hPre_dy_finite := hPre_dy_finite)
    ∧ preserves_Kernel_KernelIdeal
    ∧ algebraic_KernelIdeal_ReferenceIdeal_pre_dy_finite (hKernelIdeal := hKernelIdeal) (hReferenceIdeal := hReferenceIdeal) (hPre_dy_finite := hPre_dy_finite)
-- ==== Pre_dy_finite.lean ====
abbrev S3x256x8960 : Shape := ⟨3, ![3, 256, 8960]⟩
abbrev S3x256x1536 : Shape := ⟨3, ![3, 256, 1536]⟩
abbrev S_ : Shape := ⟨0, ![]⟩
abbrev S8960x1536 : Shape := ⟨2, ![8960, 1536]⟩

class Facts : Prop where
  bitsLt_bf16_f32 : FTy.bits .bf16 < FTy.bits .f32
  bcast_S_S3x256x8960 : S_.BroadcastsInDim S3x256x8960 (![] : Fin 0 → Fin S3x256x8960.rank)
  reducesTo_S3x256x8960_S_d0_1_2 : S3x256x8960.ReducesTo [0, 1, 2] S_
  h_S_ : 0 < S_.numel

variable [Facts]

def fn {F : FTy → Type} [FloatOps F] (main_arg0 : FVec F S3x256x8960 .bf16) (main_arg1 : FVec F S3x256x1536 .fp8e4m3) (main_arg2 : FVec F S_ .f32) (main_arg3 : FVec F S8960x1536 .fp8e4m3) (main_arg4 : FVec F S_ .f32) (main_arg5 : FVec F S8960x1536 .f32) : IVec S_ 1 :=
  let main_v0 : FVec F S3x256x8960 .f32 := (extf .f32 · bitsLt_bf16_f32) main_arg0
  let main_v1 : FVec F S3x256x8960 .f32 := Host.absf main_v0
  let main_cst : FVec F S_ .f32 := constant S_ .f32 0x7F7F0000#32
  let main_v2 : FVec F S3x256x8960 .f32 := broadcastInDim S3x256x8960 ![] bcast_S_S3x256x8960 main_cst
  let main_v3 : IVec S3x256x8960 1 := cmpf .ole main_v1 main_v2
  let main_c : IVec S_ 1 := constantI S_ 1 1#1
  let main_v4 : IVec S_ 1 := (fun x v => Host.reduce IntOp.andi x v reducesTo_S3x256x8960_S_d0_1_2 h_S_) main_v3 main_c
  main_v4
-- ==== Kernel.lean ====
abbrev S3x256x8960 : Shape := ⟨3, ![3, 256, 8960]⟩
abbrev S3x256x1536 : Shape := ⟨3, ![3, 256, 1536]⟩
abbrev S_ : Shape := ⟨0, ![]⟩
abbrev S8960x1536 : Shape := ⟨2, ![8960, 1536]⟩
abbrev S768x8960 : Shape := ⟨2, ![768, 8960]⟩
abbrev S768x1536 : Shape := ⟨2, ![768, 1536]⟩
abbrev S1 : Shape := ⟨1, ![1]⟩
abbrev S3x2x70 : Shape := ⟨3, ![3, 2, 70]⟩
abbrev S768x256 : Shape := ⟨2, ![768, 256]⟩
abbrev S256x1536 : Shape := ⟨2, ![256, 1536]⟩
abbrev S6x128 : Shape := ⟨2, ![6, 128]⟩
abbrev S128x128 : Shape := ⟨2, ![128, 128]⟩
abbrev S8x16x128 : Shape := ⟨3, ![8, 16, 128]⟩
abbrev S16x128 : Shape := ⟨2, ![16, 128]⟩
abbrev S128 : Shape := ⟨1, ![128]⟩
abbrev S1x128 : Shape := ⟨2, ![1, 128]⟩
abbrev S6 : Shape := ⟨1, ![6]⟩
abbrev S6x1 : Shape := ⟨2, ![6, 1]⟩
abbrev S256x768 : Shape := ⟨2, ![256, 768]⟩
abbrev S2x70 : Shape := ⟨2, ![2, 70]⟩
abbrev S1x2x70 : Shape := ⟨3, ![1, 2, 70]⟩
abbrev S1x6x128 : Shape := ⟨3, ![1, 6, 128]⟩
abbrev S1x1x1 : Shape := ⟨3, ![1, 1, 1]⟩

abbrev nBuf : Space → Nat
  | .hbm => 15
  | .vmem => 17
  | .smem => 3
  | _ => 0

abbrev bufTy : (tb : Table) → Fin (tcTables nBuf tb) → BufTy
  | .hbm, ⟨0, _⟩ => ⟨S3x256x8960, .bf16⟩
  | .hbm, ⟨1, _⟩ => ⟨S3x256x1536, .fp8e4m3⟩
  | .hbm, ⟨2, _⟩ => ⟨S_, .f32⟩
  | .hbm, ⟨3, _⟩ => ⟨S8960x1536, .fp8e4m3⟩
  | .hbm, ⟨4, _⟩ => ⟨S_, .f32⟩
  | .hbm, ⟨5, _⟩ => ⟨S8960x1536, .f32⟩
  | .hbm, ⟨6, _⟩ => ⟨S768x8960, .bf16⟩
  | .hbm, ⟨7, _⟩ => ⟨S768x1536, .fp8e4m3⟩
  | .hbm, ⟨8, _⟩ => ⟨S1, .f32⟩
  | .hbm, ⟨9, _⟩ => ⟨S1, .f32⟩
  | .hbm, ⟨10, _⟩ => ⟨S768x1536, .bf16⟩
  | .hbm, ⟨11, _⟩ => ⟨S8960x1536, .f32⟩
  | .hbm, ⟨12, _⟩ => ⟨S1, .f32⟩
  | .hbm, ⟨13, _⟩ => ⟨S768x8960, .fp8e5m2⟩
  | .hbm, ⟨14, _⟩ => ⟨S3x2x70, .f32⟩
  | .local _ .vmem, ⟨0, _⟩ => ⟨S768x256, .bf16⟩
  | .local _ .vmem, ⟨1, _⟩ => ⟨S768x256, .bf16⟩
  | .local _ .vmem, ⟨2, _⟩ => ⟨S768x1536, .fp8e4m3⟩
  | .local _ .vmem, ⟨3, _⟩ => ⟨S256x1536, .fp8e4m3⟩
  | .local _ .vmem, ⟨4, _⟩ => ⟨S256x1536, .fp8e4m3⟩
  | .local _ .vmem, ⟨5, _⟩ => ⟨S256x1536, .f32⟩
  | .local _ .vmem, ⟨6, _⟩ => ⟨S256x1536, .f32⟩
  | .local _ .vmem, ⟨7, _⟩ => ⟨S768x1536, .bf16⟩
  | .local _ .vmem, ⟨8, _⟩ => ⟨S256x1536, .f32⟩
  | .local _ .vmem, ⟨9, _⟩ => ⟨S256x1536, .f32⟩
  | .local _ .vmem, ⟨10, _⟩ => ⟨S768x256, .fp8e5m2⟩
  | .local _ .vmem, ⟨11, _⟩ => ⟨S768x256, .fp8e5m2⟩
  | .local _ .vmem, ⟨12, _⟩ => ⟨S3x2x70, .f32⟩
  | .local _ .vmem, ⟨13, _⟩ => ⟨S768x1536, .f32⟩
  | .local _ .vmem, ⟨14, _⟩ => ⟨S768x256, .bf16⟩
  | .local _ .vmem, ⟨15, _⟩ => ⟨S6x128, .f32⟩
  | .local _ .vmem, ⟨16, _⟩ => ⟨S6x128, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S3x256x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_stg0_0 : Ref sig .tc := ⟨.smem, 0, rfl⟩
abbrev cc0_stg1_0 : Ref sig .tc := ⟨.smem, 1, rfl⟩
abbrev cc0_stg8_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![35], ![false]⟩

def k0_cond2 (i : grid0.Coords) : BitVec 1 :=
  let arg0 : BitVec 32 := BitVec.ofNat 32 (i 0).val
  let c34_i32 : BitVec 32 := 34#32
  let v609 : BitVec 1 := Scalar.cmpi .eq arg0 c34_i32
  let v610 : BitVec 32 := Scalar.extui v609
  let c0_i32_235 : BitVec 32 := 0#32
  let v611 : BitVec 1 := Scalar.cmpi .ne v610 c0_i32_235
  v611

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S768x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S768x256 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x2x70 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S3x256x8960 : Shape := ⟨3, ![3, 256, 8960]⟩
abbrev S3x256x1536 : Shape := ⟨3, ![3, 256, 1536]⟩
abbrev S_ : Shape := ⟨0, ![]⟩
abbrev S8960x1536 : Shape := ⟨2, ![8960, 1536]⟩
abbrev S6x128x70x128 : Shape := ⟨4, ![6, 128, 70, 128]⟩
abbrev S6x70 : Shape := ⟨2, ![6, 70]⟩
abbrev S6x1x70x1 : Shape := ⟨4, ![6, 1, 70, 1]⟩
abbrev S768x8960 : Shape := ⟨2, ![768, 8960]⟩
abbrev S1 : Shape := ⟨1, ![1]⟩
abbrev S3x2x70 : Shape := ⟨3, ![3, 2, 70]⟩
abbrev S768x1536 : Shape := ⟨2, ![768, 1536]⟩

abbrev nBuf : Space → Nat
  | .hbm => 63
  | .vmem => 8
  | .smem => 2
  | _ => 0

abbrev bufTy : (tb : Table) → Fin (tcTables nBuf tb) → BufTy
  | .hbm, ⟨0, _⟩ => ⟨S3x256x8960, .bf16⟩
  | .hbm, ⟨1, _⟩ => ⟨S3x256x1536, .fp8e4m3⟩
  | .hbm, ⟨2, _⟩ => ⟨S_, .f32⟩
  | .hbm, ⟨3, _⟩ => ⟨S8960x1536, .fp8e4m3⟩
  | .hbm, ⟨4, _⟩ => ⟨S_, .f32⟩
  | .hbm, ⟨5, _⟩ => ⟨S8960x1536, .f32⟩
  | .hbm, ⟨6, _⟩ => ⟨S3x256x8960, .f32⟩
  | .hbm, ⟨7, _⟩ => ⟨S6x128x70x128, .f32⟩
  | .hbm, ⟨8, _⟩ => ⟨S6x128x70x128, .f32⟩
  | .hbm, ⟨9, _⟩ => ⟨S_, .f32⟩
  | .hbm, ⟨10, _⟩ => ⟨S6x70, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S6x70, .f32⟩
  | .hbm, ⟨15, _⟩ => ⟨S6x70, .f32⟩
  | .hbm, ⟨16, _⟩ => ⟨S6x70, .f32⟩
  | .hbm, ⟨17, _⟩ => ⟨S_, .f32⟩
  | .hbm, ⟨18, _⟩ => ⟨S_, .f32⟩
  | .hbm, ⟨19, _⟩ => ⟨S6x70, .f32⟩
  | .hbm, ⟨20, _⟩ => ⟨S6x70, .f32⟩
  | .hbm, ⟨21, _⟩ => ⟨S6x70, .f32⟩
  | .hbm, ⟨22, _⟩ => ⟨S_, .f32⟩
  | .hbm, ⟨23, _⟩ => ⟨S6x70, .f32⟩
  | .hbm, ⟨24, _⟩ => ⟨S6x70, .f32⟩
  | .hbm, ⟨25, _⟩ => ⟨S_, .f32⟩
  | .hbm, ⟨26, _⟩ => ⟨S6x70, .f32⟩
  | .hbm, ⟨27, _⟩ => ⟨S6x70, .i1⟩
  | .hbm, ⟨28, _⟩ => ⟨S_, .f32⟩
  | .hbm, ⟨29, _⟩ => ⟨S_, .f32⟩
  | .hbm, ⟨30, _⟩ => ⟨S6x70, .f32⟩
  | .hbm, ⟨31, _⟩ => ⟨S6x70, .f32⟩
  | .hbm, ⟨32, _⟩ => ⟨S_, .f32⟩
  | .hbm, ⟨33, _⟩ => ⟨S6x70, .f32⟩
  | .hbm, ⟨34, _⟩ => ⟨S6x70, .f32⟩
  | .hbm, ⟨35, _⟩ => ⟨S6x70, .f32⟩
  | .hbm, ⟨36, _⟩ => ⟨S_, .f32⟩
  | .hbm, ⟨37, _⟩ => ⟨S6x70, .f32⟩
  | .hbm, ⟨38, _⟩ => ⟨S6x70, .f32⟩
  | .hbm, ⟨39, _⟩ => ⟨S6x1x70x1, .f32⟩
  | .hbm, ⟨40, _⟩ => ⟨S6x128x70x128, .f32⟩
  | .hbm, ⟨41, _⟩ => ⟨S6x128x70x128, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S6x128x70x128, .f32⟩
  | .hbm, ⟨46, _⟩ => ⟨S6x128x70x128, .f32⟩
  | .hbm, ⟨47, _⟩ => ⟨S_, .f32⟩
  | .hbm, ⟨48, _⟩ => ⟨S6x128x70x128, .f32⟩
  | .hbm, ⟨49, _⟩ => ⟨S6x128x70x128, .f32⟩
  | .hbm, ⟨50, _⟩ => ⟨S768x8960, .f32⟩
  | .hbm, ⟨51, _⟩ => ⟨S6x70, .bf16⟩
  | .hbm, ⟨52, _⟩ => ⟨S6x1x70x1, .bf16⟩
  | .hbm, ⟨53, _⟩ => ⟨S6x128x70x128, .bf16⟩
  | .hbm, ⟨54, _⟩ => ⟨S768x8960, .bf16⟩
  | .hbm, ⟨55, _⟩ => ⟨S1, .f32⟩
  | .hbm, ⟨56, _⟩ => ⟨S3x2x70, .f32⟩
  | .hbm, ⟨57, _⟩ => ⟨S768x1536, .fp8e4m3⟩
  | .hbm, ⟨58, _⟩ => ⟨S1, .f32⟩
  | .hbm, ⟨59, _⟩ => ⟨S1, .f32⟩
  | .hbm, ⟨60, _⟩ => ⟨S768x1536, .bf16⟩
  | .hbm, ⟨61, _⟩ => ⟨S8960x1536, .f32⟩
  | .hbm, ⟨62, _⟩ => ⟨S768x8960, .fp8e5m2⟩
  | .local _ .vmem, ⟨0, _⟩ => ⟨S768x8960, .f32⟩
  | .local _ .vmem, ⟨1, _⟩ => ⟨S768x8960, .bf16⟩
  | .local _ .vmem, ⟨2, _⟩ => ⟨S768x1536, .fp8e4m3⟩
  | .local _ .vmem, ⟨3, _⟩ => ⟨S8960x1536, .fp8e4m3⟩
  | .local _ .vmem, ⟨4, _⟩ => ⟨S8960x1536, .f32⟩
  | .local _ .vmem, ⟨5, _⟩ => ⟨S768x1536, .bf16⟩
  | .local _ .vmem, ⟨6, _⟩ => ⟨S8960x1536, .f32⟩
  | .local _ .vmem, ⟨7, _⟩ => ⟨S768x8960, .fp8e5m2⟩
  | .local _ .smem, ⟨0, _⟩ => ⟨S1, .f32⟩
  | .local _ .smem, ⟨1, _⟩ => ⟨S1, .f32⟩
  | _, _ => ⟨S3x256x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_cst_9 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36_0 : Ref sig .tc := ⟨.hbm, 60, rfl⟩
abbrev main_v36_1 : Ref sig .tc := ⟨.hbm, 61, rfl⟩
abbrev main_v36_2 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg3_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S768x8960 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x8960 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8960x1536 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8960x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8960x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S768x8960 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.PowerOfTwo.lean ====
module

public import Idealize.ShloMosaic.Lib.Pointwise

/-!
# The power of two the quantiser scales by

The kernel finds the binary exponent of a ratio by trying the eight bits of a float32 exponent field
from the top down, and writes the two powers of two as float32 patterns. The reference takes the
floor of the base-two logarithm and raises two to a power. Here both are one function of the ratio,
for every real ratio from zero up to (not including) `2 ^ 126`.
-/

@[expose] public section

set_option maxRecDepth 16384

noncomputable section

namespace Cert.Backward

open Idealize Idealize.ShloMosaic

/-! ### The kernel's words -/

/-- The float32 whose exponent field is the word `f` and whose other bits are zero. -/
def fieldWord (f : BitVec 32) : EReal := Ideal.ofBits .f32 (IntOp.shli .vector f 23#32)

/-- One step of the search: the bit `b` joins the field `f` when the float with that field is not above `v`. -/
def keepBit (v : EReal) (b f : BitVec 32) : BitVec 32 :=
  Scalar.select (FloatOps.cmpf (F := Ideal) (φ := .f32) .oge v (fieldWord (IntOp.addi f b))) (IntOp.addi f b) f

/-- The exponent field the search ends with. -/
def expField (v : EReal) : BitVec 32 :=
  keepBit v 1#32 (keepBit v 2#32 (keepBit v 4#32 (keepBit v 8#32
    (keepBit v 16#32 (keepBit v 32#32 (keepBit v 64#32 (keepBit v 128#32 0#32)))))))

/-- The exponent the kernel takes from a field: the two end fields give zero. -/
def expOfField (f : BitVec 32) : BitVec 32 :=
  Scalar.select (IntOp.ori (IntOp.cmpi .eq f 0#32) (IntOp.cmpi .eq f 255#32)) 0#32 (IntOp.subi f 126#32)

/-- The kernel's scale of a block whose ratio is `v`. -/
def kernelScale (v : EReal) : EReal := fieldWord (IntOp.addi (expOfField (expField v)) 127#32)

/-- The kernel's reciprocal scale of a block whose ratio is `v`. -/
def kernelInv (v : EReal) : EReal := fieldWord (IntOp.subi 127#32 (expOfField (expField v)))

/-! ### The reference's expressions -/

/-- The reference's exponent of a ratio: zero below the least normal float32, else one more than the
    floor of the base-two logarithm. -/
def refExp (v : EReal) : EReal :=
  if v < Ideal.ofBits .f32 0x00800000#32 then 0
  else Ideal.liftRound Int.floor (Ideal.div (Ideal.log v) (Ideal.log (Ideal.ofBits .f32 0x40000000#32))) + 1

/-- The reference's scale of a block whose ratio is `v`. -/
def refScale (v : EReal) : EReal := Ideal.pow (Ideal.ofBits .f32 0x40000000#32) (refExp v)

/-- The reference's reciprocal scale of a block whose ratio is `v`. -/
def refInv (v : EReal) : EReal := Ideal.pow (Ideal.ofBits .f32 0x40000000#32) (-refExp v)

/-! ### What the words denote -/

/-- The bits of a field word: its fraction is zero, its exponent field is `n`, its sign is clear. -/
theorem shli_bits : ∀ n : Fin 256,
    (IntOp.shli .vector (BitVec.ofNat 32 n.val) 23#32).extractLsb' 31 1 = 0#1 ∧
    ((IntOp.shli .vector (BitVec.ofNat 32 n.val) 23#32).extractLsb' 23 8).toNat = n.val ∧
    ((IntOp.shli .vector (BitVec.ofNat 32 n.val) 23#32).extractLsb' 0 23).toNat = 0 := by
  decide +kernel

/-- A pattern with sign clear and fraction zero denotes the power of two its exponent field says. -/
theorem ieee_field (w : BitVec 32) (n : ℕ) (hs : w.extractLsb' 31 1 = 0#1)
    (he : (w.extractLsb' 23 8).toNat = n) (hf : (w.extractLsb' 0 23).toNat = 0) (h0 : n ≠ 0) (h255 : n ≠ 255) :
    Ideal.ieee 8 23 w = (((2 : ℝ) ^ ((n : ℤ) - 127) : ℝ) : EReal) := by
  have e2 : ((2 : ℝ) ^ (23 : ℕ)) * (2 : ℝ) ^ ((n : ℤ) - 127 - 23) = (2 : ℝ) ^ ((n : ℤ) - 127) := by
    rw [← zpow_natCast, ← zpow_add₀ (by norm_num)]; congr 1; push_cast; ring
  have hc1 : ¬ (n = 2 ^ 8 - 1) := by simpa using h255
  unfold Ideal.ieee
  simp only [Nat.reduceAdd, hs, he, hf]
  simp only [if_neg hc1, if_neg h0]
  rw [← e2]
  congr 1
  push_cast
  norm_num

/-- The pattern with the exponent field all ones and fraction zero denotes infinity. -/
theorem ieee_top (w : BitVec 32) (hs : w.extractLsb' 31 1 = 0#1)
    (he : (w.extractLsb' 23 8).toNat = 255) (hf : (w.extractLsb' 0 23).toNat = 0) : Ideal.ieee 8 23 w = ⊤ := by
  unfold Ideal.ieee
  simp only [Nat.reduceAdd, hs, he, hf]
  norm_num

/-- The field word of `n` between 1 and 254 is `2 ^ (n - 127)`. -/
theorem fieldWord_eq (n : ℕ) (h1 : 1 ≤ n) (h2 : n ≤ 254) :
    fieldWord (BitVec.ofNat 32 n) = (((2 : ℝ) ^ ((n : ℤ) - 127) : ℝ) : EReal) := by
  obtain ⟨hs, he, hf⟩ := shli_bits ⟨n, by omega⟩
  exact ieee_field _ n hs he hf (by omega) (by omega)

/-- The field word of 255 is infinity. -/
theorem fieldWord_top : fieldWord (BitVec.ofNat 32 255) = ⊤ := by
  obtain ⟨hs, he, hf⟩ := shli_bits ⟨255, by omega⟩
  exact ieee_top _ hs he hf

/-! ### The search -/

/-- One step of the search on a field given as a number. -/
theorem keepBit_nat (v : EReal) (b n : ℕ) :
    keepBit v (BitVec.ofNat 32 b) (BitVec.ofNat 32 n)
      = BitVec.ofNat 32 (if fieldWord (BitVec.ofNat 32 (n + b)) ≤ v then n + b else n) := by
  have ha : IntOp.addi (BitVec.ofNat 32 n) (BitVec.ofNat 32 b) = BitVec.ofNat 32 (n + b) := by
    unfold IntOp.addi; rw [BitVec.ofNat_add]
  unfold keepBit
  rw [ha, Ideal.cmpf_def]
  unfold Ideal.cmp
  by_cases h : fieldWord (BitVec.ofNat 32 (n + b)) ≤ v
  · simp [h, Scalar.select]
  · simp [h, Scalar.select]

/-- What the search keeps true of a field `n` when the bits below `b` are still to be tried. -/
def Found (v : EReal) (b n : ℕ) : Prop :=
  n + b ≤ 256 ∧ (n = 0 ∨ fieldWord (BitVec.ofNat 32 n) ≤ v) ∧
    (n + b ≤ 255 → ¬ fieldWord (BitVec.ofNat 32 (n + b)) ≤ v)

/-- One step halves what is still to be tried. -/
theorem Found.step {v : EReal} {b n : ℕ} (hb : 0 < b) (h : Found v (2 * b) n) :
    Found v b (if fieldWord (BitVec.ofNat 32 (n + b)) ≤ v then n + b else n) := by
  obtain ⟨h1, h2, h3⟩ := h
  split
  · rename_i hk
    exact ⟨by omega, Or.inr hk, fun hle => by
      have := h3 (by omega); rwa [show n + b + b = n + 2 * b by omega]⟩
  · rename_i hk
    exact ⟨by omega, h2, fun _ => hk⟩

/-- The search ends with the greatest field whose word is not above the ratio. -/
theorem expField_found (v : EReal) : ∃ n : ℕ, expField v = BitVec.ofNat 32 n ∧ Found v 1 n := by
  have h0 : Found v (2 * 128) 0 := ⟨by omega, Or.inl rfl, fun h => by omega⟩
  have h1 := h0.step (by norm_num)
  have h2 := Found.step (b := 64) (by norm_num) h1
  have h3 := Found.step (b := 32) (by norm_num) h2
  have h4 := Found.step (b := 16) (by norm_num) h3
  have h5 := Found.step (b := 8) (by norm_num) h4
  have h6 := Found.step (b := 4) (by norm_num) h5
  have h7 := Found.step (b := 2) (by norm_num) h6
  have h8 := Found.step (b := 1) (by norm_num) h7
  refine ⟨_, ?_, h8⟩
  unfold expField
  rw [show (0#32) = BitVec.ofNat 32 0 from rfl, keepBit_nat, keepBit_nat, keepBit_nat, keepBit_nat,
    keepBit_nat, keepBit_nat, keepBit_nat, keepBit_nat]

/-- The words of the scale and of its reciprocal, for a field that is neither end nor 253 or 254. -/
theorem scale_words : ∀ n : Fin 253,
    IntOp.addi (expOfField (BitVec.ofNat 32 n.val)) 127#32
        = BitVec.ofNat 32 (if n.val = 0 then 127 else n.val + 1) ∧
    IntOp.subi 127#32 (expOfField (BitVec.ofNat 32 n.val))
        = BitVec.ofNat 32 (if n.val = 0 then 127 else 253 - n.val) := by
  decide +kernel

/-- The float32 pattern of two denotes two. -/
theorem ofBits_two : Ideal.ofBits .f32 0x40000000#32 = ((2 : ℝ) : EReal) := by
  have h := fieldWord_eq 128 (by norm_num) (by norm_num)
  have e : fieldWord (BitVec.ofNat 32 128) = Ideal.ofBits .f32 0x40000000#32 := by
    unfold fieldWord; congr 1
  rw [← e, h]; norm_num

/-- The pattern of the least normal float32 denotes `2 ^ (-126)`. -/
theorem ofBits_tiny : Ideal.ofBits .f32 0x00800000#32 = (((2 : ℝ) ^ (-126 : ℤ) : ℝ) : EReal) := by
  have h := fieldWord_eq 1 (by norm_num) (by norm_num)
  have e : fieldWord (BitVec.ofNat 32 1) = Ideal.ofBits .f32 0x00800000#32 := by
    unfold fieldWord; congr 1
  rw [← e, h]; norm_num

/-- Two to a real power, as the extended reals' power. -/
theorem pow_two (e : ℤ) : Ideal.pow (Ideal.ofBits .f32 0x40000000#32) (((e : ℝ) : ℝ) : EReal)
    = (((2 : ℝ) ^ e : ℝ) : EReal) := by
  rw [ofBits_two]
  show ((Real.rpow 2 (e : ℝ) : ℝ) : EReal) = _
  congr 1
  exact Real.rpow_intCast 2 e

/-- The reference's exponent below the least normal float32. -/
theorem refExp_small {x : ℝ} (h : x < (2 : ℝ) ^ (-126 : ℤ)) : refExp (x : EReal) = ((0 : ℤ) : ℝ) := by
  unfold refExp
  rw [ofBits_tiny, if_pos (by exact_mod_cast h)]
  norm_num

/-- The reference's exponent of a ratio in the binade of `2 ^ k`. -/
theorem refExp_binade {x : ℝ} {k : ℤ} (h126 : (2 : ℝ) ^ (-126 : ℤ) ≤ x) (h1 : (2 : ℝ) ^ k ≤ x)
    (h2 : x < (2 : ℝ) ^ (k + 1)) : refExp (x : EReal) = ((k + 1 : ℤ) : ℝ) := by
  have hx : 0 < x := lt_of_lt_of_le (zpow_pos (by norm_num) _) h1
  have hl2 : 0 < Real.log 2 := Real.log_pos (by norm_num)
  have e1 : Ideal.log (x : EReal) = (Real.log x : EReal) := by
    show (if x ≤ 0 then (⊥ : EReal) else (Real.log x : EReal)) = _
    rw [if_neg (not_le.mpr hx)]
  have e2 : Ideal.log ((2 : ℝ) : EReal) = (Real.log 2 : EReal) := by
    show (if (2 : ℝ) ≤ 0 then (⊥ : EReal) else (Real.log 2 : EReal)) = _
    rw [if_neg (by norm_num)]
  have e3 : Ideal.div (Real.log x : EReal) (Real.log 2 : EReal) = ((Real.log x / Real.log 2 : ℝ) : EReal) := by
    unfold Ideal.div
    rw [if_neg (by exact_mod_cast hl2.ne'), div_eq_mul_inv, EReal.coe_mul, EReal.coe_inv]
  have hfl : ⌊Real.log x / Real.log 2⌋ = k := by
    rw [Int.floor_eq_iff]
    constructor
    · rw [le_div_iff₀ hl2, ← Real.log_zpow]
      exact Real.log_le_log (zpow_pos (by norm_num) _) h1
    · rw [div_lt_iff₀ hl2]
      have := Real.log_lt_log hx h2
      rw [Real.log_zpow] at this
      exact_mod_cast this
  unfold refExp
  rw [ofBits_tiny, if_neg (by rw [not_lt]; exact_mod_cast h126), ofBits_two, e1, e2, e3]
  show (((⌊Real.log x / Real.log 2⌋ : ℤ) : ℝ) : EReal) + 1 = _
  rw [hfl]; push_cast; norm_num

/-- THE POWERS OF TWO AGREE: for a real ratio from zero up to `2 ^ 126` the kernel's scale and
    reciprocal scale are the reference's. -/
theorem scales_agree {x : ℝ} (h0 : 0 ≤ x) (hx : x < (2 : ℝ) ^ (126 : ℤ)) :
    kernelScale (x : EReal) = refScale (x : EReal) ∧ kernelInv (x : EReal) = refInv (x : EReal) := by
  obtain ⟨n, hn, hle, hlow, hhigh⟩ := expField_found (x : EReal)
  have hmono : ∀ a b : ℤ, (2 : ℝ) ^ a ≤ (2 : ℝ) ^ b → a ≤ b := fun a b h =>
    (zpow_le_zpow_iff_right₀ (by norm_num)).mp h
  have h252 : n ≤ 252 := by
    by_contra hc
    rcases hlow with h | h
    · omega
    · by_cases h255 : n = 255
      · rw [h255, fieldWord_top] at h; exact absurd (top_le_iff.mp h) (EReal.coe_ne_top _)
      · rw [fieldWord_eq n (by omega) (by omega)] at h
        have h' : (2 : ℝ) ^ ((n : ℤ) - 127) ≤ x := by exact_mod_cast h
        have : (2 : ℝ) ^ (126 : ℤ) ≤ (2 : ℝ) ^ ((n : ℤ) - 127) := by
          apply zpow_le_zpow_right₀ (by norm_num); omega
        linarith
  have hup : x < (2 : ℝ) ^ ((n : ℤ) - 126) := by
    have h := hhigh (by omega)
    rw [fieldWord_eq (n + 1) (by omega) (by omega), not_le] at h
    have h' : x < (2 : ℝ) ^ (((n + 1 : ℕ) : ℤ) - 127) := by exact_mod_cast h
    rwa [show (((n + 1 : ℕ) : ℤ) - 127) = (n : ℤ) - 126 by push_cast; ring] at h'
  obtain ⟨hw1, hw2⟩ := scale_words ⟨n, by omega⟩
  simp only at hw1 hw2
  unfold kernelScale kernelInv
  rw [hn, hw1, hw2]
  by_cases hz : n = 0
  · subst hz
    have he : refExp (x : EReal) = ((0 : ℤ) : ℝ) := refExp_small (by simpa using hup)
    have hne : -refExp (x : EReal) = (((0 : ℤ) : ℝ) : EReal) := by rw [he]; norm_num
    unfold refScale refInv
    rw [hne, he, pow_two, if_pos rfl, if_pos rfl, fieldWord_eq 127 (by norm_num) (by norm_num)]
    norm_num
  · have hlo : (2 : ℝ) ^ ((n : ℤ) - 127) ≤ x := by
      rcases hlow with h | h
      · exact absurd h hz
      · rw [fieldWord_eq n (by omega) (by omega)] at h
        exact_mod_cast h
    have h126 : (2 : ℝ) ^ (-126 : ℤ) ≤ x := le_trans (zpow_le_zpow_right₀ (by norm_num) (by omega)) hlo
    have he : refExp (x : EReal) = (((n : ℤ) - 127 + 1 : ℤ) : ℝ) :=
      refExp_binade h126 hlo (by rwa [show (n : ℤ) - 127 + 1 = (n : ℤ) - 126 by ring])
    have hne : -refExp (x : EReal) = (((-((n : ℤ) - 127 + 1) : ℤ) : ℝ) : EReal) := by
      rw [he, ← EReal.coe_neg]; push_cast; rfl
    unfold refScale refInv
    rw [hne, he, pow_two, pow_two, if_neg hz, if_neg hz, fieldWord_eq (n + 1) (by omega) (by omega),
      fieldWord_eq (253 - n) (by omega) (by omega)]
    constructor
    · congr 2; push_cast; ring
    · congr 2; rw [Nat.cast_sub (by omega)]; push_cast; ring

end Cert.Backward

end
-- ==== Proof.Tiles.lean ====
module

public import proofs.«01_k».proof.Proof.Gen.KernelIdeal.Skeleton
public import proofs.«01_k».proof.Proof.PowerOfTwo

/-!
# What the kernel computes from one 768 x 256 block of the gradient

The block is twelve tiles of 128 x 128: six rows of tiles in two columns. For each tile the kernel takes
the largest absolute value, the two powers of two that go with it, the quantised tile and the tile scaled
back. The payloads here are the kernel's own; each is read at one element.
-/

@[expose] public section

set_option maxRecDepth 16384

noncomputable section

namespace Cert.Backward

open Cert.KernelIdeal Cert.KernelIdeal.Gen Idealize.ShloMosaic

/-! ### Words for tiles -/

/-- The largest absolute value of a tile. -/
def absMax (f : Fin 128 → Fin 128 → EReal) : EReal := ⨆ p, ⨆ q, max (f p q) (-(f p q))

/-- The largest absolute value over the format's largest value, 57344. -/
def ratio (a : EReal) : EReal := a * Ideal.ofBits .f32 0x37924925#32

/-- Clipping to the format's range. -/
def clip (x : EReal) : EReal := min (Ideal.ofBits .f32 1197473792#32) (max (Ideal.ofBits .f32 3344957440#32) x)

/-- Row `p` of tile row `r`. -/
def row (r : Fin 6) (p : Fin 128) : Fin 768 := ⟨128 * r + p, by omega⟩

/-- Column `q` of tile column `j` of a block. -/
def col (j : Fin 2) (q : Fin 128) : Fin 256 := ⟨128 * j + q, by omega⟩

/-- Tile `(r, j)` of a block. -/
def tile (X : FVec Ideal S768x256 .bf16) (r : Fin 6) (j : Fin 2) (p q : Fin 128) : EReal := X (ix2 (row r p) (col j q))

/-! ### Maxima -/

/-- The float32 pattern of minus infinity. -/
theorem ofBits_negInf_f32 : Ideal.ofBits .f32 4286578688#32 = (⊥ : EReal) := by
  simp only [Ideal.ofBits, Ideal.ieee]
  rw [if_pos (by decide)]
  exact if_pos (by decide)

/-- The bf16 pattern of minus infinity. -/
theorem ofBits_negInf_bf16 : Ideal.ofBits .bf16 65408#16 = (⊥ : EReal) := by
  simp only [Ideal.ofBits, Ideal.ieee]
  rw [if_pos (by decide)]
  exact if_pos (by decide)

/-- A fold by the maximum is a supremum. -/
theorem fold_max_bot {ι : Type} [Fintype ι] (f : ι → EReal) : Finset.univ.fold max ⊥ f = ⨆ i, f i :=
  Finset.sup_univ_eq_iSup f

/-- A 128-row tile reduced sixteen rows at a time, eight such strips. -/
theorem strips (f : Fin 128 → Fin 128 → EReal) :
    (⨆ q : Fin 128, ⨆ a : Fin 16, ⨆ b : Fin 8, f ⟨b * 16 + a, by omega⟩ q) = ⨆ p, ⨆ q, f p q := by
  apply le_antisymm
  · exact iSup_le fun q => iSup_le fun a => iSup_le fun b => le_iSup_of_le ⟨b * 16 + a, by omega⟩ (le_iSup_of_le q le_rfl)
  · refine iSup_le fun p => iSup_le fun q => le_iSup_of_le q (le_iSup_of_le ⟨p % 16, by omega⟩ (le_iSup_of_le ⟨p / 16, by omega⟩ ?_))
    exact le_of_eq (congrArg (fun k => f k q) (Fin.ext (by simp only []; omega)))

section
variable [Cert.KernelIdeal.Facts₀]

/-- The two high bits of the left search, for any tiles. -/
theorem bits0_gen (a b c d : FVec Ideal S1x128 .f32) (e : FVec Ideal S128x128 .bf16) (f : Vec Ideal S128x128 .bf16) (y : S6x128.Idx) :
    k0_pay16 a b c d e f y
      = keepBit (k0_pay15 a b c d e f y) 64#32 (keepBit (k0_pay15 a b c d e f y) 128#32 0#32) := by
  unfold k0_pay16
  generalize k0_pay15 a b c d e f = v
  generalize (0#32 : BitVec 32) = z
  exact rfl

/-- The two high bits of the right search, for any tiles. -/
theorem bits1_gen (a b c d : FVec Ideal S1x128 .f32) (e f : Vec Ideal S128x128 .bf16) (y : S6x128.Idx) :
    k0_pay48 a b c d e f y
      = keepBit (k0_pay47 a b c d e f y) 64#32 (keepBit (k0_pay47 a b c d e f y) 128#32 0#32) := by
  unfold k0_pay48
  generalize k0_pay47 a b c d e f = v
  generalize (0#32 : BitVec 32) = z
  exact rfl
end

/-! ### The two columns of tiles: maximum, scale, inverse scale, as the kernel names them -/

section
variable [Cert.KernelIdeal.Facts₀]

/-- The load of one tile of a block. -/
def ldTile (X : FVec Ideal S768x256 .bf16) (off : Fin 2 → Nat) (inb : ∀ a, off a + (![128, 128] : Fin 2 → Nat) a ≤ S768x256.size a) :
    Vec Ideal S128x128 .bf16 :=
  View.ld (Val := Elt Ideal) (S := S768x256) (e' := .bf16) X (Rect.unit (s := S768x256) off ![128, 128] inb)

variable (X : FVec Ideal S768x256 .bf16)

/-- A loaded tile at an element. -/
theorem ldTile_apply (r : Fin 6) (j : Fin 2) (off : Fin 2 → Nat) (inb) (h : off = ![128 * r.val, 128 * j.val]) (p q : Fin 128) :
    ldTile X off inb (ix2 p q) = tile X r j p q := by
  subst h
  unfold ldTile tile
  pointwise
  rfl

/-- The kernel's reduction of a loaded tile is the tile's largest absolute value. -/
theorem strips_tile (r : Fin 6) (j : Fin 2) (off : Fin 2 → Nat) (inb) (h : off = ![128 * r.val, 128 * j.val]) :
    (⨆ q : Fin 128, ⨆ a : Fin 16, ⨆ b : Fin 8, FloatOps.absf (F := Ideal) (φ := .bf16)
      (ldTile X off inb (ix2 ⟨b.val * 16 + a.val, by omega⟩ q))) = absMax (tile X r j) := by
  simp only [ldTile_apply X r j off inb h]
  exact strips fun p q => FloatOps.absf (F := Ideal) (φ := .bf16) (tile X r j p q)

/-- The maxima of the six tiles of the left column, along the lanes. -/
def max0 : FVec Ideal S6x128 .f32 :=
  k0_pay14 (k0_pay9 (ldTile X ![0, 0] inb_S768x256_S128x128_0_0))
    (k0_pay10 (ldTile X ![128, 0] inb_S768x256_S128x128_128_0))
    (k0_pay11 (ldTile X ![256, 0] inb_S768x256_S128x128_256_0))
    (k0_pay12 (ldTile X ![384, 0] inb_S768x256_S128x128_384_0))
    (k0_pay13 (ldTile X ![512, 0] inb_S768x256_S128x128_512_0))
    (ldTile X ![640, 0] inb_S768x256_S128x128_640_0)

/-- The maxima of the six tiles of the right column, along the lanes. -/
def max1 : FVec Ideal S6x128 .f32 :=
  k0_pay46 (k0_pay42 (ldTile X ![0, 128] inb_S768x256_S128x128_0_128))
    (k0_pay43 (ldTile X ![128, 128] inb_S768x256_S128x128_128_128))
    (k0_pay44 (ldTile X ![256, 128] inb_S768x256_S128x128_256_128))
    (k0_pay45 (ldTile X ![384, 128] inb_S768x256_S128x128_384_128))
    (ldTile X ![512, 128] inb_S768x256_S128x128_512_128)
    (ldTile X ![640, 128] inb_S768x256_S128x128_640_128)

/-- Every lane of row `r` of the left maxima is the maximum of tile `(r, 0)`. -/
theorem max0_apply (r : Fin 6) (q : Fin 128) : max0 X (ix2 r q) = absMax (tile X r 0) := by
  unfold max0
  pointwise [k0_pay9, k0_pay10, k0_pay11, k0_pay12, k0_pay13, k0_pay14]
  simp only [ofBits_negInf_f32, ofBits_negInf_bf16, fold_max_bot]
  fin_vals r with hr
  all_goals simp only [hr, Nat.reduceSub, Nat.reduceLT, ↓reduceDIte]
  all_goals exact strips_tile X r 0 _ _ (by simp [hr])

/-- Every lane of row `r` of the right maxima is the maximum of tile `(r, 1)`. -/
theorem max1_apply (r : Fin 6) (q : Fin 128) : max1 X (ix2 r q) = absMax (tile X r 1) := by
  unfold max1
  pointwise [k0_pay42, k0_pay43, k0_pay44, k0_pay45, k0_pay46]
  simp only [ofBits_negInf_f32, ofBits_negInf_bf16, fold_max_bot]
  fin_vals r with hr
  all_goals simp only [hr, Nat.reduceSub, Nat.reduceLT, ↓reduceDIte]
  all_goals exact strips_tile X r 1 _ _ (by simp [hr])

/-! ### Scales -/

/-- The left ratios. -/
def ratio0 : FVec Ideal S6x128 .f32 :=
  k0_pay15 (k0_pay9 (ldTile X ![0, 0] inb_S768x256_S128x128_0_0))
    (k0_pay10 (ldTile X ![128, 0] inb_S768x256_S128x128_128_0))
    (k0_pay11 (ldTile X ![256, 0] inb_S768x256_S128x128_256_0))
    (k0_pay12 (ldTile X ![384, 0] inb_S768x256_S128x128_384_0))
    (k0_pay13 (ldTile X ![512, 0] inb_S768x256_S128x128_512_0))
    (ldTile X ![640, 0] inb_S768x256_S128x128_640_0)

/-- The left exponent fields, six bits found. -/
def bits0 : IVec S6x128 32 :=
  k0_pay16 (k0_pay9 (ldTile X ![0, 0] inb_S768x256_S128x128_0_0))
    (k0_pay10 (ldTile X ![128, 0] inb_S768x256_S128x128_128_0))
    (k0_pay11 (ldTile X ![256, 0] inb_S768x256_S128x128_256_0))
    (k0_pay12 (ldTile X ![384, 0] inb_S768x256_S128x128_384_0))
    (k0_pay13 (ldTile X ![512, 0] inb_S768x256_S128x128_512_0))
    (ldTile X ![640, 0] inb_S768x256_S128x128_640_0)

/-- The left exponent fields with the next bit added. -/
def next0 : IVec S6x128 32 :=
  k0_pay17 (k0_pay9 (ldTile X ![0, 0] inb_S768x256_S128x128_0_0))
    (k0_pay10 (ldTile X ![128, 0] inb_S768x256_S128x128_128_0))
    (k0_pay11 (ldTile X ![256, 0] inb_S768x256_S128x128_256_0))
    (k0_pay12 (ldTile X ![384, 0] inb_S768x256_S128x128_384_0))
    (k0_pay13 (ldTile X ![512, 0] inb_S768x256_S128x128_512_0))
    (ldTile X ![640, 0] inb_S768x256_S128x128_640_0)

/-- The left scales. -/
def scale0 : FVec Ideal S6x128 .f32 :=
  k0_pay23 (ratio0 X) (k0_pay19 (ratio0 X) (bits0 X) (next0 X) k0_pay18) (k0_pay20 (ratio0 X) (bits0 X) (next0 X) k0_pay18) k0_pay21

/-- The left inverse scales. -/
def inv0 : FVec Ideal S6x128 .f32 :=
  k0_pay24 (ratio0 X) (k0_pay19 (ratio0 X) (bits0 X) (next0 X) k0_pay18) (k0_pay20 (ratio0 X) (bits0 X) (next0 X) k0_pay18) k0_pay21

/-- The right ratios. -/
def ratio1 : FVec Ideal S6x128 .f32 :=
  k0_pay47 (k0_pay42 (ldTile X ![0, 128] inb_S768x256_S128x128_0_128))
    (k0_pay43 (ldTile X ![128, 128] inb_S768x256_S128x128_128_128))
    (k0_pay44 (ldTile X ![256, 128] inb_S768x256_S128x128_256_128))
    (k0_pay45 (ldTile X ![384, 128] inb_S768x256_S128x128_384_128))
    (ldTile X ![512, 128] inb_S768x256_S128x128_512_128)
    (ldTile X ![640, 128] inb_S768x256_S128x128_640_128)

/-- The right exponent fields, two bits found. -/
def bits1 : IVec S6x128 32 :=
  k0_pay48 (k0_pay42 (ldTile X ![0, 128] inb_S768x256_S128x128_0_128))
    (k0_pay43 (ldTile X ![128, 128] inb_S768x256_S128x128_128_128))
    (k0_pay44 (ldTile X ![256, 128] inb_S768x256_S128x128_256_128))
    (k0_pay45 (ldTile X ![384, 128] inb_S768x256_S128x128_384_128))
    (ldTile X ![512, 128] inb_S768x256_S128x128_512_128)
    (ldTile X ![640, 128] inb_S768x256_S128x128_640_128)

/-- The right scales. -/
def scale1 : FVec Ideal S6x128 .f32 := k0_pay51 (ratio1 X) (k0_pay49 (ratio1 X) (bits1 X) 32#32) 1#32

/-- The right inverse scales. -/
def inv1 : FVec Ideal S6x128 .f32 := k0_pay52 (ratio1 X) (k0_pay49 (ratio1 X) (bits1 X) 32#32) 1#32

/-- The six low bits of the search, from the field `f` the two high bits left. -/
def lowBits (v : EReal) (f : BitVec 32) : BitVec 32 :=
  keepBit v 2#32 (keepBit v 4#32 (keepBit v 8#32 (keepBit v 16#32 (keepBit v 32#32 f))))

/-- A left tile's ratio. -/
theorem ratio0_apply (r : Fin 6) (q : Fin 128) : ratio0 X (ix2 r q) = ratio (absMax (tile X r 0)) := by
  rw [← max0_apply X r q]; rfl

/-- A right tile's ratio. -/
theorem ratio1_apply (r : Fin 6) (q : Fin 128) : ratio1 X (ix2 r q) = ratio (absMax (tile X r 1)) := by
  rw [← max1_apply X r q]; rfl

/-- The two high bits of the left search. -/
theorem bits0_apply (y : S6x128.Idx) : bits0 X y = keepBit (ratio0 X y) 64#32 (keepBit (ratio0 X y) 128#32 0#32) :=
  bits0_gen _ _ _ _ _ _ y

/-- The two high bits of the right search. -/
theorem bits1_apply (y : S6x128.Idx) : bits1 X y = keepBit (ratio1 X y) 64#32 (keepBit (ratio1 X y) 128#32 0#32) :=
  bits1_gen _ _ _ _ _ _ y

/-- The low bits of the left search. -/
theorem low0_apply (v : FVec Ideal S6x128 .f32) (f : IVec S6x128 32) (y : S6x128.Idx) :
    k0_pay19 v f (addi f (broadcast S6x128 32#32)) k0_pay18 y = lowBits (v y) (f y) := by exact rfl

/-- The low bits of the right search. -/
theorem low1_apply (v : FVec Ideal S6x128 .f32) (f : IVec S6x128 32) (y : S6x128.Idx) :
    k0_pay49 v f 32#32 y = lowBits (v y) (f y) := by exact rfl

/-- The left exponent. -/
theorem expo0_apply (v : FVec Ideal S6x128 .f32) (f : IVec S6x128 32) (y : S6x128.Idx) :
    k0_pay22 v f (addi f (broadcast S6x128 1#32)) k0_pay21 y = expOfField (keepBit (v y) 1#32 (f y)) := by exact rfl

/-- The right exponent. -/
theorem expo1_apply (v : FVec Ideal S6x128 .f32) (f : IVec S6x128 32) (y : S6x128.Idx) :
    k0_pay50 v f 1#32 y = expOfField (keepBit (v y) 1#32 (f y)) := by exact rfl

/-- The search over a whole left ratio. -/
theorem search0 (y : S6x128.Idx) :
    k0_pay22 (ratio0 X) (k0_pay19 (ratio0 X) (bits0 X) (next0 X) k0_pay18) (k0_pay20 (ratio0 X) (bits0 X) (next0 X) k0_pay18) k0_pay21 y
      = expOfField (expField (ratio0 X y)) :=
  (expo0_apply (ratio0 X) _ y).trans (by
    rw [show k0_pay19 (ratio0 X) (bits0 X) (next0 X) k0_pay18 y = _ from low0_apply (ratio0 X) (bits0 X) y, bits0_apply]; rfl)

/-- The search over a whole right ratio. -/
theorem search1 (y : S6x128.Idx) :
    k0_pay50 (ratio1 X) (k0_pay49 (ratio1 X) (bits1 X) 32#32) 1#32 y = expOfField (expField (ratio1 X y)) :=
  (expo1_apply (ratio1 X) _ y).trans (by rw [low1_apply, bits1_apply]; rfl)

/-- A left tile's scale. -/
theorem scale0_apply (r : Fin 6) (q : Fin 128) : scale0 X (ix2 r q) = kernelScale (ratio (absMax (tile X r 0))) := by
  rw [← ratio0_apply X r q]
  show fieldWord (IntOp.addi (k0_pay22 _ _ _ _ _) 127#32) = _
  rw [search0]; rfl

/-- A left tile's reciprocal scale. -/
theorem inv0_apply (r : Fin 6) (q : Fin 128) : inv0 X (ix2 r q) = kernelInv (ratio (absMax (tile X r 0))) := by
  rw [← ratio0_apply X r q]
  show fieldWord (IntOp.subi 127#32 (k0_pay22 _ _ _ _ _)) = _
  rw [search0]; rfl

/-- A right tile's scale. -/
theorem scale1_apply (r : Fin 6) (q : Fin 128) : scale1 X (ix2 r q) = kernelScale (ratio (absMax (tile X r 1))) := by
  rw [← ratio1_apply X r q]
  show fieldWord (IntOp.addi (k0_pay50 _ _ _ _) 127#32) = _
  rw [search1]; rfl

/-- A right tile's reciprocal scale. -/
theorem inv1_apply (r : Fin 6) (q : Fin 128) : inv1 X (ix2 r q) = kernelInv (ratio (absMax (tile X r 1))) := by
  rw [← ratio1_apply X r q]
  show fieldWord (IntOp.subi 127#32 (k0_pay50 _ _ _ _)) = _
  rw [search1]; rfl

end

end Cert.Backward
-- ==== Proof.Block.lean ====
module

public import proofs.«01_k».proof.Proof.Tiles
public import Idealize.ShloMosaic.Lib.Ring
public import Idealize.ShloMosaic.Lib.Pipeline.ReadBack
public import Idealize.ShloMosaic.Lib.Pipeline.ValueKit

/-!
# The quantised block and the block scaled back

The kernel stores twelve quantised tiles into its block of codes and twelve tiles, scaled back, into a
scratch block. Each list of stores is read as one function of the block's index.
-/

@[expose] public section

set_option maxRecDepth 16384

noncomputable section

namespace Cert.Backward

open Cert.KernelIdeal Cert.KernelIdeal.Gen Idealize.ShloMosaic

/-- A block given tile by tile. -/
def blockOf (f : Fin 6 → Fin 2 → Fin 128 → Fin 128 → EReal) (y : S768x256.Idx) : EReal :=
  f ⟨(y 0).val / 128, Nat.div_lt_of_lt_mul (y 0).isLt⟩ ⟨(y 1).val / 128, Nat.div_lt_of_lt_mul (y 1).isLt⟩
    ⟨(y 0).val % 128, Nat.mod_lt _ (by decide)⟩ ⟨(y 1).val % 128, Nat.mod_lt _ (by decide)⟩

/-- The block at an element of a tile. -/
theorem blockOf_apply (f : Fin 6 → Fin 2 → Fin 128 → Fin 128 → EReal) (r : Fin 6) (j : Fin 2) (p q : Fin 128) :
    blockOf f (ix2 (row r p) (col j q)) = f r j p q := by
  have h (a b : Nat) (hb : b < 128) : (128 * a + b) / 128 = a ∧ (128 * a + b) % 128 = b := by omega
  have h1 := h r p p.isLt
  have h2 := h j q q.isLt
  show f ⟨(128 * r.val + p.val) / 128, _⟩ ⟨(128 * j.val + q.val) / 128, _⟩ ⟨(128 * r.val + p.val) % 128, _⟩ ⟨(128 * j.val + q.val) % 128, _⟩ = _
  congr 1 <;> first | exact Fin.ext h1.1 | exact Fin.ext h2.1 | exact Fin.ext h1.2 | exact Fin.ext h2.2

/-- A stored tile that holds `f` at its place is a piece of the block. -/
theorem blockOf_piece (f : Fin 6 → Fin 2 → Fin 128 → Fin 128 → EReal) (r : Fin 6) (j : Fin 2) (off : Fin 2 → Nat)
    (inb : ∀ a, off a + (![128, 128] : Fin 2 → Nat) a ≤ S768x256.size a) (h : off = ![128 * r.val, 128 * j.val])
    (w : S128x128.Idx → EReal) (hw : ∀ p q, w (ix2 p q) = f r j p q) :
    ∀ x : S128x128.Idx, w x = blockOf f ((Rect.unit (s := S768x256) off ![128, 128] inb).emb x) := by
  subst h
  intro x
  idx_vars x
  rw [hw, ← blockOf_apply f r j x0 x1]
  congr 1
  funext a
  apply Fin.ext
  fin_cases a <;> simp [row, col, Rect.emb, Rect.unit]

section
variable [Cert.KernelIdeal.Facts₀] (X : FVec Ideal S768x256 .bf16) (v0 v1 s0 s1 : FVec Ideal S6x128 .f32)

/-- A loaded tile at an element, by offsets. -/
theorem ldTile_at (a b : Nat) (inb : ∀ k, (![a, b] : Fin 2 → Nat) k + (![128, 128] : Fin 2 → Nat) k ≤ S768x256.size k) (p q : Fin 128) :
    ldTile X ![a, b] inb (ix2 p q)
      = X (ix2 ⟨a + p, by have h : a + 128 ≤ 768 := inb 0; omega⟩ ⟨b + q, by have h : b + 128 ≤ 256 := inb 1; omega⟩) := by
  unfold ldTile
  pointwise

/-- The stores into the block of codes, last first. -/
def codeStores : List (View.Piece (Elt Ideal) S768x256 .fp8e5m2) :=
  [⟨Rect.unit ![640, 128] ![128, 128] inb_S768x256_S128x128_640_128, k0_pay69 (k0_pay68 v1 (ldTile X ![640, 128] inb_S768x256_S128x128_640_128))⟩,
    ⟨Rect.unit ![512, 128] ![128, 128] inb_S768x256_S128x128_512_128, k0_pay66 v1 (ldTile X ![512, 128] inb_S768x256_S128x128_512_128)⟩,
    ⟨Rect.unit ![384, 128] ![128, 128] inb_S768x256_S128x128_384_128, k0_pay64 v1 (ldTile X ![384, 128] inb_S768x256_S128x128_384_128)⟩,
    ⟨Rect.unit ![256, 128] ![128, 128] inb_S768x256_S128x128_256_128, k0_pay62 v1 (ldTile X ![256, 128] inb_S768x256_S128x128_256_128)⟩,
    ⟨Rect.unit ![128, 128] ![128, 128] inb_S768x256_S128x128_128_128, k0_pay58 v1 (ldTile X ![128, 128] inb_S768x256_S128x128_128_128)⟩,
    ⟨Rect.unit ![0, 128] ![128, 128] inb_S768x256_S128x128_0_128, k0_pay56 v1 (ldTile X ![0, 128] inb_S768x256_S128x128_0_128)⟩,
    ⟨Rect.unit ![640, 0] ![128, 128] inb_S768x256_S128x128_640_0, k0_pay40 v0 (ldTile X ![640, 0] inb_S768x256_S128x128_640_0)⟩,
    ⟨Rect.unit ![512, 0] ![128, 128] inb_S768x256_S128x128_512_0, k0_pay38 v0 (ldTile X ![512, 0] inb_S768x256_S128x128_512_0)⟩,
    ⟨Rect.unit ![384, 0] ![128, 128] inb_S768x256_S128x128_384_0, k0_pay34 v0 (ldTile X ![384, 0] inb_S768x256_S128x128_384_0)⟩,
    ⟨Rect.unit ![256, 0] ![128, 128] inb_S768x256_S128x128_256_0, k0_pay32 v0 (ldTile X ![256, 0] inb_S768x256_S128x128_256_0)⟩,
    ⟨Rect.unit ![128, 0] ![128, 128] inb_S768x256_S128x128_128_0, k0_pay29 v0 (ldTile X ![128, 0] inb_S768x256_S128x128_128_0)⟩,
    ⟨Rect.unit ![0, 0] ![128, 128] inb_S768x256_S128x128_0_0, k0_pay27 v0 (ldTile X ![0, 0] inb_S768x256_S128x128_0_0)⟩]

/-- The stores into the scaled-back block, last first. -/
def deqStores : List (View.Piece (Elt Ideal) S768x256 .bf16) :=
  [⟨Rect.unit ![640, 128] ![128, 128] inb_S768x256_S128x128_640_128, k0_pay70 s1 (k0_pay68 v1 (ldTile X ![640, 128] inb_S768x256_S128x128_640_128))⟩,
    ⟨Rect.unit ![512, 128] ![128, 128] inb_S768x256_S128x128_512_128, k0_pay67 s1 v1 (ldTile X ![512, 128] inb_S768x256_S128x128_512_128)⟩,
    ⟨Rect.unit ![384, 128] ![128, 128] inb_S768x256_S128x128_384_128, k0_pay65 s1 (k0_pay64 v1 (ldTile X ![384, 128] inb_S768x256_S128x128_384_128))⟩,
    ⟨Rect.unit ![256, 128] ![128, 128] inb_S768x256_S128x128_256_128, k0_pay63 s1 v1 (ldTile X ![256, 128] inb_S768x256_S128x128_256_128)⟩,
    ⟨Rect.unit ![128, 128] ![128, 128] inb_S768x256_S128x128_128_128, k0_pay61 (k0_pay59 v1 (ldTile X ![128, 128] inb_S768x256_S128x128_128_128)) (k0_pay60 s1)⟩,
    ⟨Rect.unit ![0, 128] ![128, 128] inb_S768x256_S128x128_0_128, k0_pay57 s1 v1 (ldTile X ![0, 128] inb_S768x256_S128x128_0_128)⟩,
    ⟨Rect.unit ![640, 0] ![128, 128] inb_S768x256_S128x128_640_0, k0_pay41 s0 (k0_pay40 v0 (ldTile X ![640, 0] inb_S768x256_S128x128_640_0))⟩,
    ⟨Rect.unit ![512, 0] ![128, 128] inb_S768x256_S128x128_512_0, k0_pay39 s0 v0 (ldTile X ![512, 0] inb_S768x256_S128x128_512_0)⟩,
    ⟨Rect.unit ![384, 0] ![128, 128] inb_S768x256_S128x128_384_0, k0_pay37 (k0_pay35 v0 (ldTile X ![384, 0] inb_S768x256_S128x128_384_0)) (k0_pay36 s0)⟩,
    ⟨Rect.unit ![256, 0] ![128, 128] inb_S768x256_S128x128_256_0, k0_pay33 s0 v0 (ldTile X ![256, 0] inb_S768x256_S128x128_256_0)⟩,
    ⟨Rect.unit ![128, 0] ![128, 128] inb_S768x256_S128x128_128_0, k0_pay31 (k0_pay30 s0 v0 (ldTile X ![128, 0] inb_S768x256_S128x128_128_0))⟩,
    ⟨Rect.unit ![0, 0] ![128, 128] inb_S768x256_S128x128_0_0, k0_pay28 s0 v0 (ldTile X ![0, 0] inb_S768x256_S128x128_0_0)⟩]

/-- A code from the inverse scales of the two columns. -/
def codeWith (r : Fin 6) (j : Fin 2) (p q : Fin 128) : EReal := clip (tile X r j p q * (![v0, v1] : Fin 2 → FVec Ideal S6x128 .f32) j (ix2 r q))

/-- A scaled-back element from the scales of the two columns. -/
def deqWith (r : Fin 6) (j : Fin 2) (p q : Fin 128) : EReal :=
  codeWith X v0 v1 r j p q * (![s0, s1] : Fin 2 → FVec Ideal S6x128 .f32) j (ix2 r q)

/-- The stores leave every code in its place. -/
theorem canon_codeStores : View.canon (codeStores X v0 v1) = blockOf (codeWith X v0 v1) := by
  funext y
  refine View.canon_append_of_piecesOf (Val := Elt Ideal) (s := S768x256) (e := .fp8e5m2) (blockOf (codeWith X v0 v1)) [] (codeStores X v0 v1)
    ⟨blockOf_piece _ 5 1 ![640, 128] inb_S768x256_S128x128_640_128 rfl _ ?_,
      blockOf_piece _ 4 1 ![512, 128] inb_S768x256_S128x128_512_128 rfl _ ?_,
      blockOf_piece _ 3 1 ![384, 128] inb_S768x256_S128x128_384_128 rfl _ ?_,
      blockOf_piece _ 2 1 ![256, 128] inb_S768x256_S128x128_256_128 rfl _ ?_,
      blockOf_piece _ 1 1 ![128, 128] inb_S768x256_S128x128_128_128 rfl _ ?_,
      blockOf_piece _ 0 1 ![0, 128] inb_S768x256_S128x128_0_128 rfl _ ?_,
      blockOf_piece _ 5 0 ![640, 0] inb_S768x256_S128x128_640_0 rfl _ ?_,
      blockOf_piece _ 4 0 ![512, 0] inb_S768x256_S128x128_512_0 rfl _ ?_,
      blockOf_piece _ 3 0 ![384, 0] inb_S768x256_S128x128_384_0 rfl _ ?_,
      blockOf_piece _ 2 0 ![256, 0] inb_S768x256_S128x128_256_0 rfl _ ?_,
      blockOf_piece _ 1 0 ![128, 0] inb_S768x256_S128x128_128_0 rfl _ ?_,
      blockOf_piece _ 0 0 ![0, 0] inb_S768x256_S128x128_0_0 rfl _ ?_, trivial⟩ y ?_
  on_goal 13 => exact View.cover_of_tiledL (codeStores X v0 v1) ![128, 128] rfl y
  all_goals
    intro p q
    pointwise [k0_pay27, k0_pay29, k0_pay32, k0_pay34, k0_pay38, k0_pay40, k0_pay56, k0_pay58, k0_pay62, k0_pay64, k0_pay66, k0_pay69, k0_pay68]
    rw [ldTile_at]
    rfl

/-- The stores leave every scaled-back element in its place. -/
theorem canon_deqStores : View.canon (deqStores X v0 v1 s0 s1) = blockOf (deqWith X v0 v1 s0 s1) := by
  funext y
  refine View.canon_append_of_piecesOf (Val := Elt Ideal) (s := S768x256) (e := .bf16) (blockOf (deqWith X v0 v1 s0 s1)) [] (deqStores X v0 v1 s0 s1)
    ⟨blockOf_piece _ 5 1 ![640, 128] inb_S768x256_S128x128_640_128 rfl _ ?_,
      blockOf_piece _ 4 1 ![512, 128] inb_S768x256_S128x128_512_128 rfl _ ?_,
      blockOf_piece _ 3 1 ![384, 128] inb_S768x256_S128x128_384_128 rfl _ ?_,
      blockOf_piece _ 2 1 ![256, 128] inb_S768x256_S128x128_256_128 rfl _ ?_,
      blockOf_piece _ 1 1 ![128, 128] inb_S768x256_S128x128_128_128 rfl _ ?_,
      blockOf_piece _ 0 1 ![0, 128] inb_S768x256_S128x128_0_128 rfl _ ?_,
      blockOf_piece _ 5 0 ![640, 0] inb_S768x256_S128x128_640_0 rfl _ ?_,
      blockOf_piece _ 4 0 ![512, 0] inb_S768x256_S128x128_512_0 rfl _ ?_,
      blockOf_piece _ 3 0 ![384, 0] inb_S768x256_S128x128_384_0 rfl _ ?_,
      blockOf_piece _ 2 0 ![256, 0] inb_S768x256_S128x128_256_0 rfl _ ?_,
      blockOf_piece _ 1 0 ![128, 0] inb_S768x256_S128x128_128_0 rfl _ ?_,
      blockOf_piece _ 0 0 ![0, 0] inb_S768x256_S128x128_0_0 rfl _ ?_, trivial⟩ y ?_
  on_goal 13 => exact View.cover_of_tiledL (deqStores X v0 v1 s0 s1) ![128, 128] rfl y
  all_goals
    intro p q
    pointwise [k0_pay28, k0_pay31, k0_pay33, k0_pay37, k0_pay39, k0_pay41, k0_pay57, k0_pay61, k0_pay63, k0_pay65, k0_pay67, k0_pay70, k0_pay30, k0_pay35, k0_pay36, k0_pay59, k0_pay60, k0_pay27, k0_pay29, k0_pay32, k0_pay34, k0_pay38, k0_pay40, k0_pay56, k0_pay58, k0_pay62, k0_pay64, k0_pay66, k0_pay69, k0_pay68]
    rw [ldTile_at]
    rfl

end

end Cert.Backward
-- ==== Proof.Points.lean ====
module

public import proofs.«01_k».proof.Proof.Gen.KernelIdeal.Value
public import proofs.«01_k».proof.Proof.Block

/-!
# What each grid point leaves

The grid has 35 points, one per block of 256 columns of the gradient. For each buffer the body writes,
what a point leaves is stated as a function of the point's input blocks and of what the point before left.
-/

@[expose] public section

set_option maxRecDepth 16384

noncomputable section

namespace Cert.Backward

open Cert.KernelIdeal Cert.KernelIdeal.Gen Idealize.ShloMosaic Idealize.ShloMosaic.TcCoe Idealize.SL.Sem

/-- The quantised block. -/
def codesBlock (X : FVec Ideal S768x256 .bf16) : FVec Ideal S768x256 .fp8e5m2 := blockOf (codeWith X (inv0 X) (inv1 X))

/-- The block quantised and scaled back. -/
def deqBlock (X : FVec Ideal S768x256 .bf16) : FVec Ideal S768x256 .bf16 :=
  blockOf (deqWith X (inv0 X) (inv1 X) (scale0 X) (scale1 X))

/-- The tile scales after the block at grid coordinate `n` has put its two columns in their lanes. -/
def scaleStep (n : BitVec 32) (X : FVec Ideal S768x256 .bf16) (old : FVec Ideal S6x128 .f32) : FVec Ideal S6x128 .f32 :=
  k0_pay55 (k0_pay54 n (iota Kind.tc S6x128 32 [1] iota_S6x128_d1_w32) (ratio1 X) (k0_pay49 (ratio1 X) (bits1 X) 32#32) 1#32
    (k0_pay26 n (iota Kind.tc S6x128 32 [1] iota_S6x128_d1_w32) (ratio0 X) (k0_pay19 (ratio0 X) (bits0 X) (next0 X) k0_pay18)
      (k0_pay20 (ratio0 X) (bits0 X) (next0 X) k0_pay18) k0_pay21 old))

/-- The running tile maxima after a block. -/
def maxStep (X : FVec Ideal S768x256 .bf16) (old : FVec Ideal S6x128 .f32) : FVec Ideal S6x128 .f32 :=
  k0_pay53 (max1 X) (k0_pay25 (max0 X) old)

/-- The three scale rows, stored row by row of the result. -/
def scaleRows (s : FVec Ideal S6x128 .f32) : FVec Ideal S3x2x70 .f32 :=
  View.canon (Val := Elt Ideal) (s := S3x2x70) (e := .f32)
    [⟨Rect.unit ![2, 0, 0] ![1, 2, 70] inb_S3x2x70_S1x2x70_2_0_0, k0_pay4 (View.ld (Val := Elt Ideal) (S := S6x128) (e' := .f32) s (Rect.unit ![4, 0] ![2, 70] inb_S6x128_S2x70_4_0))⟩,
     ⟨Rect.unit ![1, 0, 0] ![1, 2, 70] inb_S3x2x70_S1x2x70_1_0_0, k0_pay3 (View.ld (Val := Elt Ideal) (S := S6x128) (e' := .f32) s (Rect.unit ![2, 0] ![2, 70] inb_S6x128_S2x70_2_0))⟩,
     ⟨Rect.unit ![0, 0, 0] ![1, 2, 70] inb_S3x2x70_S1x2x70_0_0_0, k0_pay2 (View.ld (Val := Elt Ideal) (S := S6x128) (e' := .f32) s (Rect.unit ![0, 0] ![2, 70] inb_S6x128_S2x70_0_0))⟩]

/-- The scratch block read whole, after its twelve stores. -/
theorem readCov_deq (X : FVec Ideal S768x256 .bf16) :
    (View.whole cc0_scratch1).readCov (deqStores X (inv0 X) (inv1 X) (scale0 X) (scale1 X))
      (Rect.unit (s := S768x256) ![0, 0] ![768, 256] inb_S768x256_S768x256_0_0).toLoadRect = deqBlock X := by
  rw [View.readCov_eq_canon_ld _ _ _ (View.cover_of_tiledL (deqStores X (inv0 X) (inv1 X) (scale0 X) (scale1 X)) ![128, 128] rfl)]
  rw [show View.canon (deqStores X (inv0 X) (inv1 X) (scale0 X) (scale1 X)) = deqBlock X from canon_deqStores X ..]
  exact View.ld_unit_zero (S := S768x256) (by funext a; fin_cases a <;> rfl) inb_S768x256_S768x256_0_0 (Val := Elt Ideal) (e := .bf16) (deqBlock X)

/-- A load of the one element of a scalar operand. -/
theorem load_scalar (X : FVec Ideal S1 .f32) (y : S1.Idx) :
    View.ld (Val := Elt Ideal) (S := S1) (e' := .f32) X (Rect.unit (s := S1) ![0] ![1] inb_S1_S1_0) y = X (ix1 0) := by
  refine congrArg X (funext fun a => Fin.ext ?_)
  fin_cases a
  have h := (y 0).isLt
  show 0 + 1 * (y 0).val = 0
  have : S1.size 0 = 1 := rfl
  have : (Rect.unit (s := S1) ![0] ![1] inb_S1_S1_0).shape.size 0 = 1 := rfl
  omega

variable (m : (ℓ : Loc nD τ sig) → Buf (Elt Ideal) ℓ) (c : Dev nD)

/-- The accumulated first product after point `t`. -/
def accAt (n : ℕ) (h : n < cfg0.N) : FVec Ideal S768x1536 .f32 := (outsAt0 m c n h).2.2.2.2.2.1

/-- The tile scales after point `t`. -/
def sclAt (n : ℕ) (h : n < cfg0.N) : FVec Ideal S6x128 .f32 := (outsAt0 m c n h).2.2.2.2.2.2.1

/-- The running tile maxima after point `t`. -/
def gmaxAt (n : ℕ) (h : n < cfg0.N) : FVec Ideal S6x128 .f32 := (outsAt0 m c n h).2.2.2.2.2.2.2

/-- The gradient's block at point `t`. -/
abbrev gradBlk (t : Fin cfg0.N) : FVec Ideal S768x256 .bf16 := iblk m c 2 t

/-- The first point leaves the block of codes. -/
theorem codes_A (t : Fin cfg0.N) (h0 : t.val % 35 = 0) (h1 : ¬t.val % 35 = 34) :
    (outsAt0 m c t.val t.isLt).2.2.2.1 = codesBlock (gradBlk m c t) := by
  rw [outsAt0_A m c t h0 h1]
  dsimp only
  frame_open
  simp (disch := decide) only [↓ View.readCov_skip, ↓ View.readCov_cons_toLoadRect, ↓ View.readCov_fill]
  frame_out
  exact canon_codeStores (gradBlk m c t) ..

/-- The first point leaves the block of the accumulated gradient. -/
theorem mgo_A (t : Fin cfg0.N) (h0 : t.val % 35 = 0) (h1 : ¬t.val % 35 = 34) :
    (outsAt0 m c t.val t.isLt).2.1 = k0_pay72 (deqBlock (gradBlk m c t)) (iblk m c 3 t) (iblk m c 5 t) (iblk m c 0 t (ix1 0)) := by
  rw [outsAt0_A m c t h0 h1]
  dsimp only
  frame_open
  simp (disch := decide) only [↓ View.readCov_skip, ↓ View.readCov_cons_toLoadRect, ↓ View.readCov_fill]
  frame_out
  exact congrArg₂ (fun D z => k0_pay72 D (iblk m c 3 t) (iblk m c 5 t) z) (readCov_deq (gradBlk m c t)) (load_scalar (iblk m c 0 t) _)

/-- The first point leaves the accumulator. -/
theorem acc_A (t : Fin cfg0.N) (h0 : t.val % 35 = 0) (h1 : ¬t.val % 35 = 34) :
    accAt m c t.val t.isLt = k0_pay71 k0_pay6 (deqBlock (gradBlk m c t)) (iblk m c 4 t) := by
  unfold accAt
  rw [outsAt0_A m c t h0 h1]
  dsimp only
  frame_open
  simp (disch := decide) only [↓ View.readCov_skip, ↓ View.readCov_cons_toLoadRect, ↓ View.readCov_fill]
  frame_out
  exact congrArg (fun D => k0_pay71 _ D (iblk m c 4 t)) (readCov_deq (gradBlk m c t))

/-- The first point leaves the tile scales. -/
theorem scl_A (t : Fin cfg0.N) (h0 : t.val % 35 = 0) (h1 : ¬t.val % 35 = 34) :
    sclAt m c t.val t.isLt = scaleStep (BitVec.ofNat 32 (grid0.coords t 0).val) (gradBlk m c t) k0_pay7 := by
  unfold sclAt
  rw [outsAt0_A m c t h0 h1]
  dsimp only
  frame_open
  simp (disch := decide) only [↓ View.readCov_skip, ↓ View.readCov_cons_toLoadRect, ↓ View.readCov_fill]
  frame_out
  rfl

/-- The first point leaves the running maxima. -/
theorem gmax_A (t : Fin cfg0.N) (h0 : t.val % 35 = 0) (h1 : ¬t.val % 35 = 34) :
    gmaxAt m c t.val t.isLt = maxStep (gradBlk m c t) k0_pay8 := by
  unfold gmaxAt
  rw [outsAt0_A m c t h0 h1]
  dsimp only
  frame_open
  simp (disch := decide) only [↓ View.readCov_skip, ↓ View.readCov_cons_toLoadRect, ↓ View.readCov_fill]
  frame_out
  rfl

/-- A middle point leaves the block of codes. -/
theorem codes_B (t : Fin cfg0.N) (h0 : ¬t.val % 35 = 0) (h1 : ¬t.val % 35 = 34) :
    (outsAt0 m c t.val t.isLt).2.2.2.1 = codesBlock (gradBlk m c t) := by
  rw [outsAt0_B m c t h0 h1]
  dsimp only
  frame_open
  simp (disch := decide) only [↓ View.readCov_skip, ↓ View.readCov_cons_toLoadRect, ↓ View.readCov_fill]
  frame_out
  exact canon_codeStores (gradBlk m c t) ..

/-- A middle point leaves the block of the accumulated gradient. -/
theorem mgo_B (t : Fin cfg0.N) (h0 : ¬t.val % 35 = 0) (h1 : ¬t.val % 35 = 34) :
    (outsAt0 m c t.val t.isLt).2.1 = k0_pay72 (deqBlock (gradBlk m c t)) (iblk m c 3 t) (iblk m c 5 t) (iblk m c 0 t (ix1 0)) := by
  rw [outsAt0_B m c t h0 h1]
  dsimp only
  frame_open
  simp (disch := decide) only [↓ View.readCov_skip, ↓ View.readCov_cons_toLoadRect, ↓ View.readCov_fill]
  frame_out
  exact congrArg₂ (fun D z => k0_pay72 D (iblk m c 3 t) (iblk m c 5 t) z) (readCov_deq (gradBlk m c t)) (load_scalar (iblk m c 0 t) _)

/-- A middle point leaves the accumulator. -/
theorem acc_B (t : Fin cfg0.N) (h0 : ¬t.val % 35 = 0) (h1 : ¬t.val % 35 = 34) :
    accAt m c t.val t.isLt = k0_pay71 (accAt m c (t.val - 1) (Nat.lt_of_le_of_lt (Nat.sub_le _ _) t.isLt)) (deqBlock (gradBlk m c t)) (iblk m c 4 t) := by
  unfold accAt
  rw [outsAt0_B m c t h0 h1]
  dsimp only
  frame_open
  simp (disch := decide) only [↓ View.readCov_skip, ↓ View.readCov_cons_toLoadRect, ↓ View.readCov_fill]
  frame_out
  simp only [read_unread_whole]
  exact congrArg (fun D => k0_pay71 _ D (iblk m c 4 t)) (readCov_deq (gradBlk m c t))

/-- A middle point leaves the tile scales. -/
theorem scl_B (t : Fin cfg0.N) (h0 : ¬t.val % 35 = 0) (h1 : ¬t.val % 35 = 34) :
    sclAt m c t.val t.isLt = scaleStep (BitVec.ofNat 32 (grid0.coords t 0).val) (gradBlk m c t) (sclAt m c (t.val - 1) (Nat.lt_of_le_of_lt (Nat.sub_le _ _) t.isLt)) := by
  unfold sclAt
  rw [outsAt0_B m c t h0 h1]
  dsimp only
  frame_open
  simp (disch := decide) only [↓ View.readCov_skip, ↓ View.readCov_cons_toLoadRect, ↓ View.readCov_fill]
  frame_out
  simp only [read_unread_whole]
  rfl

/-- A middle point leaves the running maxima. -/
theorem gmax_B (t : Fin cfg0.N) (h0 : ¬t.val % 35 = 0) (h1 : ¬t.val % 35 = 34) :
    gmaxAt m c t.val t.isLt = maxStep (gradBlk m c t) (gmaxAt m c (t.val - 1) (Nat.lt_of_le_of_lt (Nat.sub_le _ _) t.isLt)) := by
  unfold gmaxAt
  rw [outsAt0_B m c t h0 h1]
  dsimp only
  frame_open
  simp (disch := decide) only [↓ View.readCov_skip, ↓ View.readCov_cons_toLoadRect, ↓ View.readCov_fill]
  frame_out
  simp only [read_unread_whole]
  rfl

/-- The last point leaves the block of codes. -/
theorem codes_C (t : Fin cfg0.N) (h0 : ¬t.val % 35 = 0) (h1 : t.val % 35 = 34) :
    (outsAt0 m c t.val t.isLt).2.2.2.1 = codesBlock (gradBlk m c t) := by
  rw [outsAt0_C m c t h0 h1]
  dsimp only
  frame_open
  simp (disch := decide) only [↓ View.readCov_skip, ↓ View.readCov_cons_toLoadRect, ↓ View.readCov_fill]
  frame_out
  exact canon_codeStores (gradBlk m c t) ..

/-- The last point leaves the block of the accumulated gradient. -/
theorem mgo_C (t : Fin cfg0.N) (h0 : ¬t.val % 35 = 0) (h1 : t.val % 35 = 34) :
    (outsAt0 m c t.val t.isLt).2.1 = k0_pay72 (deqBlock (gradBlk m c t)) (iblk m c 3 t) (iblk m c 5 t) (iblk m c 0 t (ix1 0)) := by
  rw [outsAt0_C m c t h0 h1]
  dsimp only
  frame_open
  simp (disch := decide) only [↓ View.readCov_skip, ↓ View.readCov_cons_toLoadRect, ↓ View.readCov_fill]
  frame_out
  exact congrArg₂ (fun D z => k0_pay72 D (iblk m c 3 t) (iblk m c 5 t) z) (readCov_deq (gradBlk m c t)) (load_scalar (iblk m c 0 t) _)

/-- The last point leaves the accumulator. -/
theorem acc_C (t : Fin cfg0.N) (h0 : ¬t.val % 35 = 0) (h1 : t.val % 35 = 34) :
    accAt m c t.val t.isLt = k0_pay71 (accAt m c (t.val - 1) (Nat.lt_of_le_of_lt (Nat.sub_le _ _) t.isLt)) (deqBlock (gradBlk m c t)) (iblk m c 4 t) := by
  unfold accAt
  rw [outsAt0_C m c t h0 h1]
  dsimp only
  frame_open
  simp (disch := decide) only [↓ View.readCov_skip, ↓ View.readCov_cons_toLoadRect, ↓ View.readCov_fill]
  frame_out
  simp only [read_unread_whole]
  exact congrArg (fun D => k0_pay71 _ D (iblk m c 4 t)) (readCov_deq (gradBlk m c t))

/-- The last point leaves the tile scales. -/
theorem scl_C (t : Fin cfg0.N) (h0 : ¬t.val % 35 = 0) (h1 : t.val % 35 = 34) :
    sclAt m c t.val t.isLt = scaleStep (BitVec.ofNat 32 (grid0.coords t 0).val) (gradBlk m c t) (sclAt m c (t.val - 1) (Nat.lt_of_le_of_lt (Nat.sub_le _ _) t.isLt)) := by
  unfold sclAt
  rw [outsAt0_C m c t h0 h1]
  dsimp only
  frame_open
  simp (disch := decide) only [↓ View.readCov_skip, ↓ View.readCov_cons_toLoadRect, ↓ View.readCov_fill]
  frame_out
  simp only [read_unread_whole]
  rfl

/-- The last point leaves the running maxima. -/
theorem gmax_C (t : Fin cfg0.N) (h0 : ¬t.val % 35 = 0) (h1 : t.val % 35 = 34) :
    gmaxAt m c t.val t.isLt = maxStep (gradBlk m c t) (gmaxAt m c (t.val - 1) (Nat.lt_of_le_of_lt (Nat.sub_le _ _) t.isLt)) := by
  unfold gmaxAt
  rw [outsAt0_C m c t h0 h1]
  dsimp only
  frame_open
  simp (disch := decide) only [↓ View.readCov_skip, ↓ View.readCov_cons_toLoadRect, ↓ View.readCov_fill]
  frame_out
  simp only [read_unread_whole]
  rfl

/-- The last point leaves the input's gradient. -/
theorem dx_C (t : Fin cfg0.N) (h0 : ¬t.val % 35 = 0) (h1 : t.val % 35 = 34) :
    (outsAt0 m c t.val t.isLt).1 = k0_pay1 (accAt m c t.val t.isLt) (iblk m c 1 t (ix1 0)) := by
  rw [acc_C m c t h0 h1]
  rw [outsAt0_C m c t h0 h1]
  dsimp only
  frame_open
  simp (disch := decide) only [↓ View.readCov_skip, ↓ View.readCov_cons_toLoadRect, ↓ View.readCov_fill]
  frame_out
  simp only [read_unread_whole]
  exact congrArg₂ (fun D z => k0_pay1 (k0_pay71 _ D (iblk m c 4 t)) z) (readCov_deq (gradBlk m c t)) (load_scalar (iblk m c 1 t) _)

/-- The last point leaves the largest absolute value. -/
theorem amax_C (t : Fin cfg0.N) (h0 : ¬t.val % 35 = 0) (h1 : t.val % 35 = 34) :
    ((outsAt0 m c t.val t.isLt).2.2.1 : FVec Ideal S1 .f32) = fun _ => k0_pay5 (F := Ideal) (gmaxAt m c t.val t.isLt) := by
  rw [gmax_C m c t h0 h1]
  rw [outsAt0_C m c t h0 h1]
  dsimp only
  frame_open
  simp (disch := decide) only [↓ View.readCov_skip, ↓ View.readCov_cons_toLoadRect, ↓ View.readCov_fill]
  frame_out
  simp only [read_unread_whole]
  rfl

/-- The last point leaves the rows of the scales. -/
theorem rows_C (t : Fin cfg0.N) (h0 : ¬t.val % 35 = 0) (h1 : t.val % 35 = 34) :
    (outsAt0 m c t.val t.isLt).2.2.2.2.1 = scaleRows (sclAt m c t.val t.isLt) := by
  rw [scl_C m c t h0 h1]
  rw [outsAt0_C m c t h0 h1]
  dsimp only
  frame_open
  simp (disch := decide) only [↓ View.readCov_skip, ↓ View.readCov_cons_toLoadRect, ↓ View.readCov_fill]
  frame_out
  simp only [read_unread_whole]
  rfl

end Cert.Backward
-- ==== Proof.Model.lean ====
module

public import proofs.«01_k».proof.Proof.Tiles

/-!
# The results as functions of the operands

With `D` the gradient (768 tokens by 8960 output columns), cut into 6 x 70 tiles of 128 x 128: every tile's
scale and inverse scale come from its largest absolute value over 57344, through two functions `sc` and
`inv` on which the kernel and the reference differ until they are shown equal.
-/

@[expose] public section

set_option maxRecDepth 16384

noncomputable section

namespace Cert.Backward

open Idealize.ShloMosaic

/-- Column `q` of tile column `J` of the gradient. -/
def gcol (J : Fin 70) (q : Fin 128) : Fin 8960 := ⟨128 * J + q, by omega⟩

/-- The tile row of a row. -/
def rowTile (R : Fin 768) : Fin 6 := ⟨R / 128, by omega⟩

/-- The tile column of a column. -/
def colTile (C : Fin 8960) : Fin 70 := ⟨C / 128, by omega⟩

section
variable (sc inv : EReal → EReal) (D : Fin 768 → Fin 8960 → EReal)

/-- Tile `(r, J)` of the gradient. -/
def gtile (r : Fin 6) (J : Fin 70) (p q : Fin 128) : EReal := D (row r p) (gcol J q)

/-- The ratio of tile `(r, J)`. -/
def tileRatio (r : Fin 6) (J : Fin 70) : EReal := ratio (absMax (gtile D r J))

/-- The quantised gradient. -/
def code (R : Fin 768) (C : Fin 8960) : EReal := clip (D R C * inv (tileRatio D (rowTile R) (colTile C)))

/-- The gradient quantised and scaled back. -/
def deq (R : Fin 768) (C : Fin 8960) : EReal := code inv D R C * sc (tileRatio D (rowTile R) (colTile C))

/-- The gradient with respect to the input. -/
def dxAt (W : Fin 8960 → Fin 1536 → EReal) (ws : EReal) (R : Fin 768) (k : Fin 1536) : EReal :=
  (∑ C, deq sc inv D R C * W C k) * ws

/-- The accumulated gradient with respect to the weight. -/
def mgoAt (X : Fin 768 → Fin 1536 → EReal) (xs : EReal) (M : Fin 8960 → Fin 1536 → EReal) (C : Fin 8960) (k : Fin 1536) : EReal :=
  M C k + (∑ R, deq sc inv D R C * X R k) * xs

/-- The largest absolute value of the gradient. -/
def amaxAll : EReal := ⨆ r, ⨆ J, absMax (gtile D r J)

/-- The scale of a tile, its row of tiles counted in pairs. -/
def scaleAt (b : Fin 3) (h : Fin 2) (J : Fin 70) : EReal := sc (tileRatio D ⟨2 * b + h, by omega⟩ J)

end

/-- A largest absolute value is not negative. -/
theorem absMax_nonneg (f : Fin 128 → Fin 128 → EReal) : 0 ≤ absMax f := by
  refine le_iSup_of_le 0 (le_iSup_of_le 0 ?_)
  rcases le_total 0 (f 0 0) with h | h
  · exact le_max_of_le_left h
  · exact le_max_of_le_right (EReal.neg_nonneg.mpr h)

/-- A row and its tile row. -/
theorem row_rowTile (R : Fin 768) : row (rowTile R) ⟨R % 128, Nat.mod_lt _ (by decide)⟩ = R :=
  Fin.ext (by show 128 * (R.val / 128) + R.val % 128 = R.val; omega)

end Cert.Backward
-- ==== Proof.Steps.lean ====
module

public import proofs.«01_k».proof.Proof.Points
public import proofs.«01_k».proof.Proof.Model

/-!
# One point's step at one element

The steps of the accumulator, the tile scales and the running maxima, and the results' payloads, each read
at one element in the words of the gradient's tiles.
-/

@[expose] public section

set_option maxRecDepth 16384

noncomputable section

namespace Cert.Backward

open Cert.KernelIdeal Cert.KernelIdeal.Gen Idealize.ShloMosaic

/-! ### The payloads -/

section
variable [Cert.KernelIdeal.Facts₀]

/-- One accumulation of the first product. -/
theorem accStep_apply (a : FVec Ideal S768x1536 .f32) (d : FVec Ideal S768x256 .bf16) (w : FVec Ideal S256x1536 .fp8e4m3)
    (r : Fin 768) (q : Fin 1536) :
    k0_pay71 a d w (ix2 r q) = a (ix2 r q) + ∑ k : Fin 256, d (ix2 r k) * w (ix2 k q) := by
  pointwise [k0_pay71]

/-- The accumulator starts at zero. -/
theorem accInit_apply (r : Fin 768) (q : Fin 1536) : k0_pay6 (F := Ideal) (ix2 r q) = 0 := by
  pointwise [k0_pay6]

/-- The running maxima start at zero. -/
theorem maxInit_apply (r : Fin 6) (q : Fin 128) : k0_pay8 (F := Ideal) (ix2 r q) = 0 := by
  pointwise [k0_pay8]

/-- The second product, added to the accumulated gradient. -/
theorem mgo_apply (d : FVec Ideal S768x256 .bf16) (x : FVec Ideal S768x1536 .fp8e4m3) (g : FVec Ideal S256x1536 .f32) (z : EReal)
    (r : Fin 256) (q : Fin 1536) :
    k0_pay72 d x g z (ix2 r q) = g (ix2 r q) + (∑ k : Fin 768, d (ix2 k r) * x (ix2 k q)) * z := by
  pointwise [k0_pay72]

/-- The first product, scaled. -/
theorem dx_apply (a : FVec Ideal S768x1536 .f32) (z : EReal) (r : Fin 768) (q : Fin 1536) :
    (k0_pay1 (F := Ideal) a z : S768x1536.Idx → EReal) (ix2 r q) = a (ix2 r q) * z := by
  pointwise [k0_pay1]

/-- The largest of the running maxima. -/
theorem amax_apply (a : FVec Ideal S6x128 .f32) : k0_pay5 a = ⨆ r, ⨆ q, a (ix2 r q) := by
  pointwise [k0_pay5]
  simp only [ofBits_negInf_f32, fold_max_bot]
  exact iSup_prod

/-- The running maxima after a block, at an element. -/
theorem maxStep_apply (X : FVec Ideal S768x256 .bf16) (old : FVec Ideal S6x128 .f32) (r : Fin 6) (q : Fin 128) :
    maxStep X old (ix2 r q) = max (max (old (ix2 r q)) (absMax (tile X r 0))) (absMax (tile X r 1)) := by
  rw [← max0_apply X r q, ← max1_apply X r q]
  unfold maxStep
  pointwise [k0_pay53, k0_pay25]

/-- The kernel's test whether a lane is the lane of column `j` of point `t`. -/
theorem lane_select (t : ℕ) (ht : t < 35) (j : ℕ) (hj : j < 2) (q : Fin 128) (x y : EReal) :
    Scalar.select (IntOp.cmpi .eq (BitVec.ofNat 32 q.val) (Scalar.addi (Scalar.muli (BitVec.ofNat 32 t) 2#32) (BitVec.ofNat 32 j))) x y
      = if q.val = 2 * t + j then x else y := by
  have hq := q.isLt
  have e : Scalar.addi (Scalar.muli (BitVec.ofNat 32 t) 2#32) (BitVec.ofNat 32 j) = BitVec.ofNat 32 (2 * t + j) := by
    apply BitVec.eq_of_toNat_eq
    show ((BitVec.ofNat 32 t * 2#32) + BitVec.ofNat 32 j).toNat = _
    simp only [BitVec.toNat_add, BitVec.toNat_mul, BitVec.toNat_ofNat]
    omega
  rw [e]
  have e2 : IntOp.cmpi .eq (BitVec.ofNat 32 q.val) (BitVec.ofNat 32 (2 * t + j)) = if q.val = 2 * t + j then 1 else 0 := by
    show BitVec.ofBool (BitVec.ofNat 32 q.val == BitVec.ofNat 32 (2 * t + j)) = _
    by_cases h : q.val = 2 * t + j
    · rw [h]; simp
    · rw [if_neg h]
      have : BitVec.ofNat 32 q.val ≠ BitVec.ofNat 32 (2 * t + j) := fun h' => h (by
        have := congrArg BitVec.toNat h'
        simp only [BitVec.toNat_ofNat] at this
        omega)
      rw [beq_eq_false_iff_ne.mpr this]
      rfl
  rw [e2]
  unfold Scalar.select
  by_cases h : q.val = 2 * t + j <;> simp [h]

/-- The tile scales after a block, at an element: the block's own two lanes hold its scales, the others keep theirs. -/
theorem scaleStep_apply (t : ℕ) (ht : t < 35) (X : FVec Ideal S768x256 .bf16) (old : FVec Ideal S6x128 .f32) (r : Fin 6) (q : Fin 128) :
    scaleStep (BitVec.ofNat 32 t) X old (ix2 r q)
      = if q.val = 2 * t + 1 then kernelScale (ratio (absMax (tile X r 1)))
        else if q.val = 2 * t + 0 then kernelScale (ratio (absMax (tile X r 0))) else old (ix2 r q) := by
  rw [← scale0_apply X r q, ← scale1_apply X r q, ← lane_select t ht 0 (by decide), ← lane_select t ht 1 (by decide)]
  unfold scaleStep scale0 scale1 k0_pay55 k0_pay54 k0_pay26
  generalize k0_pay23 (F := Ideal) _ _ _ _ = s0
  generalize k0_pay51 (F := Ideal) _ _ _ = s1
  pointwise

/-- A stored pair of scale rows, at an index of the result it lands on. -/
theorem scaleRows_piece (s : FVec Ideal S6x128 .f32) (b : Fin 3) (off : Fin 3 → Nat)
    (inb : ∀ a, off a + (![1, 2, 70] : Fin 3 → Nat) a ≤ S3x2x70.size a) (h : off = ![b.val, 0, 0])
    (w : S1x2x70.Idx → EReal) (hw : ∀ (h : Fin 2) (l : Fin 70), w (ix3 0 h l) = s (ix2 ⟨2 * b + h, by omega⟩ ⟨l, by omega⟩))
    (G : S3x2x70.Idx → EReal) (hG : ∀ (b : Fin 3) (h : Fin 2) (l : Fin 70), G (ix3 b h l) = s (ix2 ⟨2 * b + h, by omega⟩ ⟨l, by omega⟩)) :
    ∀ x : S1x2x70.Idx, w x = G ((Rect.unit (s := S3x2x70) off ![1, 2, 70] inb).emb x) := by
  subst h
  intro x
  idx_vars x
  obtain rfl : x0 = 0 := Subsingleton.elim _ _
  rw [hw, ← hG b x1 x2]
  congr 1
  funext a
  apply Fin.ext
  fin_cases a <;> simp [Rect.emb, Rect.unit]

/-- The result of the tile scales, at an element. -/
theorem scaleRows_apply (s : FVec Ideal S6x128 .f32) (b : Fin 3) (h : Fin 2) (l : Fin 70) :
    scaleRows s (ix3 b h l) = s (ix2 ⟨2 * b + h, by omega⟩ ⟨l, by omega⟩) := by
  let G : S3x2x70.Idx → EReal := fun i => s (ix2 ⟨2 * (i 0).val + (i 1).val, by
    have h0 : (i 0).val < 3 := (i 0).isLt
    have h1 : (i 1).val < 2 := (i 1).isLt
    omega⟩ ⟨(i 2).val, by have h2 : (i 2).val < 70 := (i 2).isLt; omega⟩)
  have hG : ∀ (b : Fin 3) (h : Fin 2) (l : Fin 70), G (ix3 b h l) = s (ix2 ⟨2 * b + h, by omega⟩ ⟨l, by omega⟩) := fun _ _ _ => rfl
  rw [← hG]
  unfold scaleRows
  refine View.canon_append_of_piecesOf (Val := Elt Ideal) (s := S3x2x70) (e := .f32) G [] [⟨_, _⟩, ⟨_, _⟩, ⟨_, _⟩]
    ⟨scaleRows_piece s 2 ![2, 0, 0] inb_S3x2x70_S1x2x70_2_0_0 rfl _ ?_ G hG,
      scaleRows_piece s 1 ![1, 0, 0] inb_S3x2x70_S1x2x70_1_0_0 rfl _ ?_ G hG,
      scaleRows_piece s 0 ![0, 0, 0] inb_S3x2x70_S1x2x70_0_0_0 rfl _ ?_ G hG, trivial⟩ (ix3 b h l) ?_
  on_goal 4 => exact View.cover_of_tiledL (s := S3x2x70) _ ![1, 2, 70] rfl (ix3 b h l)
  all_goals
    intro h l
    pointwise [k0_pay2, k0_pay3, k0_pay4]

end

/-! ### Blocks of the gradient -/

section
variable [Cert.KernelIdeal.Facts₀] (D : Fin 768 → Fin 8960 → EReal) (t : ℕ) (ht : t < 35) (X : FVec Ideal S768x256 .bf16)

/-- `X` is the `t`-th block of 256 columns of `D`. -/
def IsBlock : Prop := ∀ (a : Fin 768) (b : Fin 256), X (ix2 a b) = D a ⟨256 * t + b, by omega⟩

/-- Tile column `j` of point `t`. -/
def pair (j : Fin 2) : Fin 70 := ⟨2 * t + j, by omega⟩

/-- A block's tile is a tile of the gradient. -/
theorem tile_eq (h : IsBlock D t ht X) (r : Fin 6) (j : Fin 2) : tile X r j = gtile D r (pair t ht j) := by
  funext p q
  unfold tile gtile
  rw [h]
  exact congrArg (D _) (Fin.ext (by show 256 * t + (128 * j.val + q.val) = 128 * (2 * t + j.val) + q.val; omega))

/-- A block built from codes, at an element, in the words of the whole gradient. -/
theorem codesBlock_apply (h : IsBlock D t ht X) (a : Fin 768) (b : Fin 256) :
    codesBlock X (ix2 a b) = code kernelInv D a ⟨256 * t + b, by omega⟩ := by
  obtain ⟨r, p, rfl⟩ : ∃ r p, a = row r p := ⟨rowTile a, _, (row_rowTile a).symm⟩
  obtain ⟨j, q, rfl⟩ : ∃ j q, b = col j q := ⟨⟨b / 128, by omega⟩, ⟨b % 128, by omega⟩, Fin.ext (by show b.val = 128 * (b.val / 128) + b.val % 128; omega)⟩
  unfold codesBlock
  rw [blockOf_apply]
  have e1 : rowTile (row r p) = r := Fin.ext (by show (128 * r.val + p.val) / 128 = r.val; omega)
  have e2 : colTile ⟨256 * t + (col j q).val, by have := (col j q).isLt; omega⟩ = pair t ht j :=
    Fin.ext (by show (256 * t + (128 * j.val + q.val)) / 128 = 2 * t + j.val; omega)
  have e3 : (![inv0 X, inv1 X] : Fin 2 → FVec Ideal S6x128 .f32) j (ix2 r q) = kernelInv (ratio (absMax (tile X r j))) := by
    fin_cases j
    · exact inv0_apply X r q
    · exact inv1_apply X r q
  unfold codeWith code
  rw [e3, e1, e2]
  unfold tileRatio
  rw [← tile_eq D t ht X h]
  unfold tile
  rw [h]

/-- A block quantised and scaled back, at an element. -/
theorem deqBlock_apply (h : IsBlock D t ht X) (a : Fin 768) (b : Fin 256) :
    deqBlock X (ix2 a b) = deq kernelScale kernelInv D a ⟨256 * t + b, by omega⟩ := by
  unfold deq
  rw [← codesBlock_apply D t ht X h a b]
  obtain ⟨r, p, rfl⟩ : ∃ r p, a = row r p := ⟨rowTile a, _, (row_rowTile a).symm⟩
  obtain ⟨j, q, rfl⟩ : ∃ j q, b = col j q := ⟨⟨b / 128, by omega⟩, ⟨b % 128, by omega⟩, Fin.ext (by show b.val = 128 * (b.val / 128) + b.val % 128; omega)⟩
  unfold deqBlock codesBlock
  rw [blockOf_apply, blockOf_apply]
  have e1 : rowTile (row r p) = r := Fin.ext (by show (128 * r.val + p.val) / 128 = r.val; omega)
  have e2 : colTile ⟨256 * t + (col j q).val, by have := (col j q).isLt; omega⟩ = pair t ht j :=
    Fin.ext (by show (256 * t + (128 * j.val + q.val)) / 128 = 2 * t + j.val; omega)
  have e3 : (![scale0 X, scale1 X] : Fin 2 → FVec Ideal S6x128 .f32) j (ix2 r q) = kernelScale (ratio (absMax (tile X r j))) := by
    fin_cases j
    · exact scale0_apply X r q
    · exact scale1_apply X r q
  unfold deqWith
  rw [e3, e1, e2]
  unfold tileRatio
  rw [← tile_eq D t ht X h]

end

end Cert.Backward
-- ==== Proof.Carried.lean ====
module

public import proofs.«01_k».proof.Proof.Steps

/-!
# What the carried buffers hold after each point

By induction on the point: the accumulator holds the product over the columns seen so far, the tile scales'
lanes seen so far hold their tiles' scales, and the running maxima are those of the tiles seen so far.
-/

@[expose] public section

set_option maxRecDepth 16384

noncomputable section

namespace Cert.Backward

open Cert.KernelIdeal Cert.KernelIdeal.Gen Idealize.ShloMosaic Idealize.ShloMosaic.TcCoe Idealize.SL.Sem

variable (m : (ℓ : Loc nD τ sig) → Buf (Elt Ideal) ℓ) (c : Dev nD)

/-! ### The operands the region finds -/

/-- The gradient. -/
def opD (R : Fin 768) (C : Fin 8960) : EReal := (V m c main_v0 : S768x8960.Idx → EReal) (ix2 R C)

/-- The input. -/
def opX (R : Fin 768) (k : Fin 1536) : EReal := (V m c main_v1 : S768x1536.Idx → EReal) (ix2 R k)

/-- The weight's codes. -/
def opW (C : Fin 8960) (k : Fin 1536) : EReal := (V m c main_arg3 : S8960x1536.Idx → EReal) (ix2 C k)

/-- The accumulated gradient. -/
def opM (C : Fin 8960) (k : Fin 1536) : EReal := (V m c main_arg5 : S8960x1536.Idx → EReal) (ix2 C k)

/-- The input's scale. -/
def opXs : EReal := (V m c main_v2 : S1.Idx → EReal) (ix1 0)

/-- The weight's scale. -/
def opWs : EReal := (V m c main_v3 : S1.Idx → EReal) (ix1 0)

/-! ### The blocks at each point -/

/-- There are 35 points. -/
theorem lt35 (t : Fin cfg0.N) : t.val < 35 := lt_of_lt_of_eq t.isLt Gen.N_0

/-- A point's grid coordinate is its number. -/
theorem coords_val : ∀ t : Fin cfg0.N, (grid0.coords t 0).val = t.val :=
  (by decide +kernel : ∀ t : Fin grid0.N, (grid0.coords t 0).val = t.val)

/-- The gradient's block at a point. -/
theorem index2 : ∀ t : Fin cfg0.N, win0_2.index t = ![0, t.val] :=
  (by decide +kernel : ∀ t : Fin grid0.N, win0_2.index t = ![0, t.val])

/-- The input's block at a point: all of it. -/
theorem index3 : ∀ t : Fin cfg0.N, win0_3.index t = ![0, 0] :=
  (by decide +kernel : ∀ t : Fin grid0.N, win0_3.index t = ![0, 0])

/-- The weight's block at a point. -/
theorem index4 : ∀ t : Fin cfg0.N, win0_4.index t = ![t.val, 0] :=
  (by decide +kernel : ∀ t : Fin grid0.N, win0_4.index t = ![t.val, 0])

/-- The accumulated gradient's block at a point. -/
theorem index5 : ∀ t : Fin cfg0.N, win0_5.index t = ![t.val, 0] :=
  (by decide +kernel : ∀ t : Fin grid0.N, win0_5.index t = ![t.val, 0])

/-- The gradient block at a point is columns `256 t` and on. -/
theorem gradBlk_isBlock (t : Fin cfg0.N) : IsBlock (opD m c) t.val (lt35 t) (gradBlk m c t) := by
  intro a b
  have e := index2 t
  unfold gradBlk opD
  blk_simp [iblk]
  refine congrArg (V m c main_v0 : S768x8960.Idx → EReal) ?_
  blk_ext [e]

/-- The input block is the input. -/
theorem xBlk_apply (t : Fin cfg0.N) (R : Fin 768) (k : Fin 1536) :
    (iblk m c 3 t : S768x1536.Idx → EReal) (ix2 R k) = opX m c R k := by
  have e := index3 t
  unfold opX
  blk_simp [iblk]
  refine congrArg (V m c main_v1 : S768x1536.Idx → EReal) ?_
  blk_ext [e]

/-- The weight block is rows `256 t` and on. -/
theorem wBlk_apply (t : Fin cfg0.N) (a : Fin 256) (k : Fin 1536) :
    (iblk m c 4 t : S256x1536.Idx → EReal) (ix2 a k) = opW m c ⟨256 * t.val + a, by have := lt35 t; omega⟩ k := by
  have e := index4 t
  unfold opW
  blk_simp [iblk]
  refine congrArg (V m c main_arg3 : S8960x1536.Idx → EReal) ?_
  blk_ext [e]

/-- The accumulated gradient block is rows `256 t` and on. -/
theorem mBlk_apply (t : Fin cfg0.N) (a : Fin 256) (k : Fin 1536) :
    (iblk m c 5 t : S256x1536.Idx → EReal) (ix2 a k) = opM m c ⟨256 * t.val + a, by have := lt35 t; omega⟩ k := by
  have e := index5 t
  unfold opM
  blk_simp [iblk]
  refine congrArg (V m c main_arg5 : S8960x1536.Idx → EReal) ?_
  blk_ext [e]

/-- An array of one element has one index. -/
theorem idx1_eq (i j : S1.Idx) : i = j := by
  funext a
  apply Fin.ext
  fin_cases a
  have hi : (i 0).val < 1 := (i 0).isLt
  have hj : (j 0).val < 1 := (j 0).isLt
  show (i 0).val = (j 0).val
  omega

/-- The block of the input's scale. -/
theorem xsBlk_apply (t : Fin cfg0.N) : (iblk m c 0 t : S1.Idx → EReal) (ix1 0) = opXs m c := by
  unfold opXs
  blk_simp [iblk]
  exact congrArg (V m c main_v2 : S1.Idx → EReal) (idx1_eq _ _)

/-- The block of the weight's scale. -/
theorem wsBlk_apply (t : Fin cfg0.N) : (iblk m c 1 t : S1.Idx → EReal) (ix1 0) = opWs m c := by
  unfold opWs
  blk_simp [iblk]
  exact congrArg (V m c main_v3 : S1.Idx → EReal) (idx1_eq _ _)

/-! ### One point after another -/

/-- The accumulator after the first point, -/
theorem acc_zero (h : 0 < cfg0.N) :
    accAt m c 0 h = k0_pay71 k0_pay6 (deqBlock (gradBlk m c ⟨0, h⟩)) (iblk m c 4 ⟨0, h⟩) :=
  acc_A m c ⟨0, h⟩ (Nat.zero_mod 35) (by show ¬0 % 35 = 34; decide)

/-- and after a later one. -/
theorem acc_succ (n : ℕ) (h : n + 1 < cfg0.N) :
    accAt m c (n + 1) h = k0_pay71 (accAt m c n (by omega)) (deqBlock (gradBlk m c ⟨n + 1, h⟩)) (iblk m c 4 ⟨n + 1, h⟩) := by
  have hN := lt35 ⟨n + 1, h⟩
  have h0 : ¬(⟨n + 1, h⟩ : Fin cfg0.N).val % 35 = 0 := by dsimp only at hN ⊢; omega
  by_cases h1 : (⟨n + 1, h⟩ : Fin cfg0.N).val % 35 = 34
  · exact acc_C m c ⟨n + 1, h⟩ h0 h1
  · exact acc_B m c ⟨n + 1, h⟩ h0 h1

/-- The tile scales after the first point, -/
theorem scl_zero (h : 0 < cfg0.N) : sclAt m c 0 h = scaleStep (BitVec.ofNat 32 0) (gradBlk m c ⟨0, h⟩) k0_pay7 := by
  refine (scl_A m c ⟨0, h⟩ (Nat.zero_mod 35) (by show ¬0 % 35 = 34; decide)).trans ?_
  rw [coords_val]

/-- and after a later one. -/
theorem scl_succ (n : ℕ) (h : n + 1 < cfg0.N) :
    sclAt m c (n + 1) h = scaleStep (BitVec.ofNat 32 (n + 1)) (gradBlk m c ⟨n + 1, h⟩) (sclAt m c n (by omega)) := by
  have hN := lt35 ⟨n + 1, h⟩
  have h0 : ¬(⟨n + 1, h⟩ : Fin cfg0.N).val % 35 = 0 := by dsimp only at hN ⊢; omega
  by_cases h1 : (⟨n + 1, h⟩ : Fin cfg0.N).val % 35 = 34
  · refine (scl_C m c ⟨n + 1, h⟩ h0 h1).trans ?_
    rw [coords_val]
    rfl
  · refine (scl_B m c ⟨n + 1, h⟩ h0 h1).trans ?_
    rw [coords_val]
    rfl

/-- The running maxima after the first point, -/
theorem gmax_zero (h : 0 < cfg0.N) : gmaxAt m c 0 h = maxStep (gradBlk m c ⟨0, h⟩) k0_pay8 :=
  gmax_A m c ⟨0, h⟩ (Nat.zero_mod 35) (by show ¬0 % 35 = 34; decide)

/-- and after a later one. -/
theorem gmax_succ (n : ℕ) (h : n + 1 < cfg0.N) :
    gmaxAt m c (n + 1) h = maxStep (gradBlk m c ⟨n + 1, h⟩) (gmaxAt m c n (by omega)) := by
  have hN := lt35 ⟨n + 1, h⟩
  have h0 : ¬(⟨n + 1, h⟩ : Fin cfg0.N).val % 35 = 0 := by dsimp only at hN ⊢; omega
  by_cases h1 : (⟨n + 1, h⟩ : Fin cfg0.N).val % 35 = 34
  · exact gmax_C m c ⟨n + 1, h⟩ h0 h1
  · exact gmax_B m c ⟨n + 1, h⟩ h0 h1

/-! ### The invariants -/

/-- A term of the first product, zero past the last column. -/
def term (R : Fin 768) (k : Fin 1536) (C : ℕ) : EReal :=
  if h : C < 8960 then deq kernelScale kernelInv (opD m c) R ⟨C, h⟩ * opW m c ⟨C, h⟩ k else 0

/-- One block's share of the first product. -/
theorem block_sum (t : Fin cfg0.N) (R : Fin 768) (k : Fin 1536) :
    ∑ b : Fin 256, deqBlock (gradBlk m c t) (ix2 R b) * (iblk m c 4 t : S256x1536.Idx → EReal) (ix2 b k)
      = ∑ x ∈ Finset.range 256, term m c R k (256 * t.val + x) := by
  rw [Finset.sum_range]
  refine Finset.sum_congr rfl fun b _ => ?_
  have := lt35 t
  rw [wBlk_apply, deqBlock_apply _ _ _ _ (gradBlk_isBlock m c t)]
  unfold term
  rw [dif_pos (by omega)]

/-- After a point the accumulator is the sum over the columns of the blocks so far. -/
theorem accAt_apply (n : ℕ) (h : n < cfg0.N) (R : Fin 768) (k : Fin 1536) :
    accAt m c n h (ix2 R k) = ∑ x ∈ Finset.range (256 * (n + 1)), term m c R k x := by
  induction n with
  | zero =>
    rw [acc_zero, accStep_apply, accInit_apply, zero_add]
    refine (block_sum m c ⟨0, h⟩ R k).trans ?_
    simp only [Nat.mul_zero, Nat.zero_add, Nat.mul_one]
  | succ n ih =>
    rw [acc_succ, accStep_apply, ih, Nat.mul_succ 256 (n + 1), Finset.sum_range_add]
    exact congrArg _ (block_sum m c ⟨n + 1, h⟩ R k)

/-- After a point every tile column so far has its scales in its lane. -/
theorem sclAt_apply (n : ℕ) (h : n < cfg0.N) (r : Fin 6) (l : Fin 70) (hl : l.val < 2 * (n + 1)) :
    sclAt m c n h (ix2 r ⟨l, by omega⟩) = kernelScale (tileRatio (opD m c) r l) := by
  have key (t : Fin cfg0.N) (old : FVec Ideal S6x128 .f32) (h1 : ¬ l.val < 2 * t.val → l.val < 2 * (t.val + 1)) (h2 : l.val < 2 * t.val → old (ix2 r ⟨l, by omega⟩) = kernelScale (tileRatio (opD m c) r l)) :
      scaleStep (BitVec.ofNat 32 t.val) (gradBlk m c t) old (ix2 r ⟨l, by omega⟩) = kernelScale (tileRatio (opD m c) r l) := by
    have ht := lt35 t
    rw [scaleStep_apply t.val ht, tile_eq _ _ ht _ (gradBlk_isBlock m c t), tile_eq _ _ ht _ (gradBlk_isBlock m c t)]
    dsimp only
    by_cases e1 : l.val = 2 * t.val + 1
    · rw [if_pos e1]
      exact congrArg (fun J => kernelScale (tileRatio (opD m c) r J)) (Fin.ext e1.symm)
    · rw [if_neg e1]
      by_cases e0 : l.val = 2 * t.val + 0
      · rw [if_pos e0]
        exact congrArg (fun J => kernelScale (tileRatio (opD m c) r J)) (Fin.ext e0.symm)
      · rw [if_neg e0]
        exact h2 (by omega)
  induction n with
  | zero =>
    rw [scl_zero]
    exact key ⟨0, h⟩ _ (fun _ => hl) (fun h => absurd h (by simp))
  | succ n ih =>
    rw [scl_succ]
    exact key ⟨n + 1, h⟩ _ (fun _ => hl) (fun h' => ih (by omega) h' key)

/-- The largest absolute value of the tiles of row `r` among the first `n` tile columns. -/
def maxUpTo (r : Fin 6) (n : ℕ) : EReal := ⨆ (J : Fin 70) (_ : J.val < n), absMax (gtile (opD m c) r J)

/-- One more tile column. -/
theorem maxUpTo_succ (r : Fin 6) (J : Fin 70) :
    maxUpTo m c r (J.val + 1) = max (maxUpTo m c r J.val) (absMax (gtile (opD m c) r J)) := by
  unfold maxUpTo
  apply le_antisymm
  · refine iSup₂_le fun K hK => ?_
    by_cases e : K = J
    · subst e; exact le_max_right _ _
    · have : K.val < J.val := by
        have : K.val ≠ J.val := fun h => e (Fin.ext h)
        omega
      exact le_max_of_le_left (le_iSup₂_of_le K this le_rfl)
  · refine max_le (iSup₂_le fun K hK => le_iSup₂_of_le K (by omega) le_rfl) (le_iSup₂_of_le J (by omega) le_rfl)

/-- After a point the running maxima are the largest of the tiles so far. -/
theorem gmaxAt_apply (n : ℕ) (h : n < cfg0.N) (r : Fin 6) (q : Fin 128) :
    gmaxAt m c n h (ix2 r q) = max 0 (maxUpTo m c r (2 * (n + 1))) := by
  have key (t : Fin cfg0.N) (old : FVec Ideal S6x128 .f32) (ho : old (ix2 r q) = max 0 (maxUpTo m c r (2 * t.val))) :
      maxStep (gradBlk m c t) old (ix2 r q) = max 0 (maxUpTo m c r (2 * (t.val + 1))) := by
    have ht := lt35 t
    rw [maxStep_apply, ho, tile_eq _ _ ht _ (gradBlk_isBlock m c t), tile_eq _ _ ht _ (gradBlk_isBlock m c t), max_assoc, max_assoc]
    congr 1
    rw [← max_assoc]
    refine Eq.trans ?_ (maxUpTo_succ m c r (pair t.val ht 1)).symm
    congr 1
    exact (maxUpTo_succ m c r (pair t.val ht 0)).symm
  induction n with
  | zero =>
    rw [gmax_zero]
    refine key ⟨0, h⟩ _ ?_
    rw [maxInit_apply]
    unfold maxUpTo
    simp
  | succ n ih =>
    rw [gmax_succ]
    exact key ⟨n + 1, h⟩ _ (ih (by omega))

end Cert.Backward
-- ==== Proof.Arrays.lean ====
module

public import proofs.«01_k».proof.Proof.Carried

/-!
# The arrays the kernel leaves

Each result's array after the last point, at one element, as a function of the operands.
-/

@[expose] public section

set_option maxRecDepth 16384

noncomputable section

namespace Cert.Backward

open Cert.KernelIdeal Cert.KernelIdeal.Gen Idealize.ShloMosaic Idealize.ShloMosaic.TcCoe Idealize.SL.Sem

variable (m : (ℓ : Loc nD τ sig) → Buf (Elt Ideal) ℓ) (c : Dev nD)

/-- The last point. -/
def last : Fin cfg0.N := ⟨34, lt_of_lt_of_eq (by decide : 34 < 35) Gen.N_0.symm⟩

/-- The last point is not the first, -/
theorem last_ne : ¬last.val % 35 = 0 := by unfold last; decide

/-- and it is the 35th. -/
theorem last_eq : last.val % 35 = 34 := by unfold last; decide

/-- The accumulated gradient's block at a point. -/
theorem index7 : ∀ t : Fin cfg0.N, win0_7.index t = ![t.val, 0] :=
  (by decide +kernel : ∀ t : Fin grid0.N, win0_7.index t = ![t.val, 0])

/-- The codes' block at a point. -/
theorem index9 : ∀ t : Fin cfg0.N, win0_9.index t = ![0, t.val] :=
  (by decide +kernel : ∀ t : Fin grid0.N, win0_9.index t = ![0, t.val])

/-- The block of codes at every point. -/
theorem codes_at (t : Fin cfg0.N) : (outsAt0 m c t.val t.isLt).2.2.2.1 = codesBlock (gradBlk m c t) := by
  by_cases h0 : t.val % 35 = 0
  · exact codes_A m c t h0 (by omega)
  · by_cases h1 : t.val % 35 = 34
    · exact codes_C m c t h0 h1
    · exact codes_B m c t h0 h1

/-- The block of the accumulated gradient at every point. -/
theorem mgo_at (t : Fin cfg0.N) :
    (outsAt0 m c t.val t.isLt).2.1 = k0_pay72 (deqBlock (gradBlk m c t)) (iblk m c 3 t) (iblk m c 5 t) (iblk m c 0 t (ix1 0)) := by
  by_cases h0 : t.val % 35 = 0
  · exact mgo_A m c t h0 (by omega)
  · by_cases h1 : t.val % 35 = 34
    · exact mgo_C m c t h0 h1
    · exact mgo_B m c t h0 h1

/-- The codes' array. -/
def codesArr : S768x8960.Idx → EReal := fun i => code kernelInv (opD m c) (i 0) (i 1)

/-- The codes the kernel leaves. -/
theorem final_codes : (dats m 0 c).arrAt 9 cfg0.N = codesArr m c := by
  refine (dats m 0 c).arrAt_eq_of_covers 9 _ (by decide +kernel) fun t hf y => ?_
  blk_simp
  rw [after0_9, codes_at]
  have ht := lt35 t
  have e := index9 t
  obtain ⟨a, b, rfl⟩ : ∃ (a : Fin 768) (b : Fin 256), y = ix2 a b := ⟨y 0, y 1, by funext k; fin_cases k <;> rfl⟩
  refine (codesBlock_apply (opD m c) t.val ht _ (gradBlk_isBlock m c t) a b).trans ?_
  unfold codesArr
  congr 1 <;> (apply Fin.ext; blk_simp [e]; all_goals (try simp); all_goals (try omega))

/-- The accumulated gradient's array. -/
def mgoArr : S8960x1536.Idx → EReal :=
  fun i => mgoAt kernelScale kernelInv (opD m c) (opX m c) (opXs m c) (opM m c) (i 0) (i 1)

/-- The accumulated gradient the kernel leaves. -/
theorem final_mgo : (dats m 0 c).arrAt 7 cfg0.N = mgoArr m c := by
  refine (dats m 0 c).arrAt_eq_of_covers 7 _ (by decide +kernel) fun t hf y => ?_
  blk_simp
  rw [after0_7, mgo_at]
  have ht := lt35 t
  have e := index7 t
  obtain ⟨a, b, rfl⟩ : ∃ (a : Fin 256) (b : Fin 1536), y = ix2 a b := ⟨y 0, y 1, by funext k; fin_cases k <;> rfl⟩
  refine (mgo_apply _ _ _ _ a b).trans ?_
  unfold mgoArr
  rw [xsBlk_apply, mBlk_apply]
  simp only [xBlk_apply, deqBlock_apply (opD m c) t.val ht _ (gradBlk_isBlock m c t)]
  show mgoAt kernelScale kernelInv (opD m c) (opX m c) (opXs m c) (opM m c) ⟨256 * t.val + a, _⟩ b = _
  congr 1 <;> (apply Fin.ext; blk_simp [e]; all_goals (try simp); all_goals (try omega))

/-- The input gradient's array. -/
def dxArr : S768x1536.Idx → EReal := fun i => dxAt kernelScale kernelInv (opD m c) (opW m c) (opWs m c) (i 0) (i 1)

/-- The input's gradient the kernel leaves, written once, after the last point. -/
theorem final_dx : (dats m 0 c).arrAt 6 cfg0.N = dxArr m c := by
  refine (dats m 0 c).arrAt_eq_of_after_last 6 last (by decide +kernel) _ fun j => ?_
  blk_simp
  rw [after0_6, dx_C m c last last_ne last_eq]
  obtain ⟨a, b, rfl⟩ : ∃ (a : Fin 768) (b : Fin 1536), j = ix2 a b := ⟨j 0, j 1, by funext k; fin_cases k <;> rfl⟩
  refine (dx_apply _ _ a b).trans ?_
  rw [wsBlk_apply, accAt_apply]
  refine (?_ : _ = dxAt kernelScale kernelInv (opD m c) (opW m c) (opWs m c) a b)
  unfold dxAt
  refine congrArg (· * opWs m c) ?_
  rw [show 256 * (last.val + 1) = 8960 from by unfold last; norm_num, Finset.sum_range]
  refine Finset.sum_congr rfl fun C _ => ?_
  unfold term
  rw [dif_pos C.isLt]

/-- The largest absolute value's array. -/
def amaxArr : S1.Idx → EReal := fun _ => amaxAll (opD m c)

/-- The largest absolute value the kernel leaves. -/
theorem final_amax : (dats m 0 c).arrAt 8 cfg0.N = amaxArr m c := by
  refine (dats m 0 c).arrAt_eq_of_after_last 8 last (by decide +kernel) _ fun j => ?_
  blk_simp
  rw [after0_8, amax_C m c last last_ne last_eq]
  show k0_pay5 (F := Ideal) (gmaxAt m c last.val last.isLt) = amaxAll (opD m c)
  rw [amax_apply]
  simp only [gmaxAt_apply]
  unfold amaxAll
  refine iSup_congr fun r => ?_
  rw [iSup_const]
  have e : maxUpTo m c r (2 * (last.val + 1)) = ⨆ J, absMax (gtile (opD m c) r J) := by
    unfold maxUpTo
    refine iSup_congr fun J => ?_
    exact iSup_pos (show J.val < 70 from J.isLt)
  rw [e]
  exact max_eq_right (le_iSup_of_le 0 (absMax_nonneg _))

/-- The tile scales' array. -/
def scalesArr : S3x2x70.Idx → EReal := fun i => scaleAt kernelScale (opD m c) (i 0) (i 1) (i 2)

/-- The tile scales the kernel leaves. -/
theorem final_scales : (dats m 0 c).arrAt 10 cfg0.N = scalesArr m c := by
  refine (dats m 0 c).arrAt_eq_of_after_last 10 last (by decide +kernel) _ fun j => ?_
  blk_simp
  rw [after0_10, rows_C m c last last_ne last_eq]
  obtain ⟨b, h, l, rfl⟩ : ∃ (b : Fin 3) (h : Fin 2) (l : Fin 70), j = ix3 b h l :=
    ⟨j 0, j 1, j 2, by funext k; fin_cases k <;> rfl⟩
  refine (scaleRows_apply _ b h l).trans ?_
  exact sclAt_apply m c last.val last.isLt _ l (show l.val < 70 from l.isLt)

end Cert.Backward
-- ==== Proof.Operands.lean ====
module

public import proofs.«01_k».proof.Proof.Model

/-!
# The arguments as the products see them

The gradient and the input arrive as three batches of 256 tokens; the products see 768 tokens.
-/

@[expose] public section

noncomputable section

namespace Cert.Backward

/-- The batches' tokens, one after another. -/
def tokens {n : ℕ} (f : Fin 3 → Fin 256 → Fin n → EReal) (R : Fin 768) (C : Fin n) : EReal :=
  f ⟨R / 256, by omega⟩ ⟨R % 256, by omega⟩ C

end Cert.Backward
-- ==== Proof.KernelArgs.lean ====
module

public import proofs.«01_k».proof.Proof.Arrays
public import proofs.«01_k».proof.Proof.Operands
public import Idealize.ShloMosaic.Lib.StableHlo.ReadAt

/-!
# The kernel's operands are its arguments

The host hands the kernel the gradient and the input as 768 tokens, and the two scalars as arrays of one
element.
-/

@[expose] public section

set_option maxRecDepth 16384

noncomputable section

namespace Cert.Backward

open Cert.KernelIdeal Cert.KernelIdeal.Gen Idealize.ShloMosaic Idealize.ShloMosaic.TcCoe Idealize.SL.Sem

section
variable [Cert.KernelIdeal.Facts₀]

/-- The gradient's tokens. -/
theorem grad_tokens (x : FVec Ideal S3x256x8960 .bf16) (R : Fin 768) (k : Fin 8960) :
    (shapeCast S768x8960 x shapeCasts_S3x256x8960_S768x8960 : FVec Ideal S768x8960 .bf16) (ix2 R k)
      = tokens (fun b s k => x (ix3 b s k)) R k := by
  unfold tokens
  pointwise

/-- The input's tokens. -/
theorem input_tokens (x : FVec Ideal S3x256x1536 .fp8e4m3) (R : Fin 768) (k : Fin 1536) :
    (shapeCast S768x1536 x shapeCasts_S3x256x1536_S768x1536 : FVec Ideal S768x1536 .fp8e4m3) (ix2 R k)
      = tokens (fun b s k => x (ix3 b s k)) R k := by
  unfold tokens
  pointwise

end

variable (m : (ℓ : Loc nD τ sig) → Buf (Elt Ideal) ℓ) (c : Dev nD)

/-- The first operand is the gradient, reshaped; -/
theorem V_grad : (V m c main_v0 : FVec Ideal S768x8960 .bf16)
    = shapeCast S768x8960 (m ((c : Thread nD τ).loc main_arg0) : FVec Ideal S3x256x8960 .bf16) shapeCasts_S3x256x8960_S768x8960 := by
  unfold V
  after_reads_simp
  rfl

/-- the second the input, reshaped; -/
theorem V_x : (V m c main_v1 : FVec Ideal S768x1536 .fp8e4m3)
    = shapeCast S768x1536 (m ((c : Thread nD τ).loc main_arg1) : FVec Ideal S3x256x1536 .fp8e4m3) shapeCasts_S3x256x1536_S768x1536 := by
  unfold V
  after_reads_simp
  rfl

/-- then the input's scale -/
theorem V_xs : (V m c main_v2 : FVec Ideal S1 .f32)
    = shapeCast S1 (m ((c : Thread nD τ).loc main_arg2) : FVec Ideal S_ .f32) shapeCasts_S_S1 := by
  unfold V
  after_reads_simp
  rfl

/-- and the weight's, each as an array of one element. -/
theorem V_ws : (V m c main_v3 : FVec Ideal S1 .f32)
    = shapeCast S1 (m ((c : Thread nD τ).loc main_arg4) : FVec Ideal S_ .f32) shapeCasts_S_S1 := by
  unfold V
  after_reads_simp
  rfl

/-- The gradient the kernel reads is the argument. -/
theorem opD_eq : opD m c = tokens fun b s C => (m ((c : Thread nD τ).loc main_arg0) : S3x256x8960.Idx → EReal) (ix3 b s C) :=
  funext fun R => funext fun C => (congrFun (V_grad m c) (ix2 R C)).trans
    (grad_tokens (m ((c : Thread nD τ).loc main_arg0) : FVec Ideal S3x256x8960 .bf16) R C)

/-- The input the kernel reads is the argument. -/
theorem opX_eq : opX m c = tokens fun b s k => (m ((c : Thread nD τ).loc main_arg1) : S3x256x1536.Idx → EReal) (ix3 b s k) :=
  funext fun R => funext fun k => (congrFun (V_x m c) (ix2 R k)).trans
    (input_tokens (m ((c : Thread nD τ).loc main_arg1) : FVec Ideal S3x256x1536 .fp8e4m3) R k)

/-- The input's scale is the argument. -/
theorem opXs_eq : opXs m c = (m ((c : Thread nD τ).loc main_arg2) : S_.Idx → EReal) ix0 :=
  (congrFun (V_xs m c) (ix1 0)).trans
    (congrArg (m ((c : Thread nD τ).loc main_arg2) : S_.Idx → EReal) (funext fun a => a.elim0))

/-- The weight's scale is the argument. -/
theorem opWs_eq : opWs m c = (m ((c : Thread nD τ).loc main_arg4) : S_.Idx → EReal) ix0 :=
  (congrFun (V_ws m c) (ix1 0)).trans
    (congrArg (m ((c : Thread nD τ).loc main_arg4) : S_.Idx → EReal) (funext fun a => a.elim0))

/-- The weight's codes are the argument. -/
theorem opW_eq : opW m c = fun C k => (m ((c : Thread nD τ).loc main_arg3) : S8960x1536.Idx → EReal) (ix2 C k) :=
  funext fun C => funext fun k => congrFun (V_main_arg3 m c) (ix2 C k)

/-- The accumulated gradient is the argument. -/
theorem opM_eq : opM m c = fun C k => (m ((c : Thread nD τ).loc main_arg5) : S8960x1536.Idx → EReal) (ix2 C k) :=
  funext fun C => funext fun k => congrFun (V_main_arg5 m c) (ix2 C k)

end Cert.Backward
-- ==== Proof.RefHost.lean ====
module

public import proofs.«01_k».proof.Proof.Gen.ReferenceIdeal.Value
public import proofs.«01_k».proof.Proof.Model
public import Idealize.ShloMosaic.Lib.StableHlo.ReadAt

/-!
# The reference's quantiser

The stages of the reference's quantiser as functions of arrays, each read at one element.
-/

@[expose] public section

set_option maxRecDepth 16384

noncomputable section

namespace Cert.BackwardRef

open Cert.ReferenceIdeal Cert.ReferenceIdeal.Gen Cert.Backward Idealize.ShloMosaic

section
variable [Cert.ReferenceIdeal.Facts₀]

/-- The gradient cut into tiles: tile row, row, tile column, column. -/
def tiles (dy : FVec Ideal S3x256x8960 .bf16) : FVec Ideal S6x128x70x128 .f32 :=
  shapeCast S6x128x70x128 (extf .f32 dy bitsLt_bf16_f32) shapeCasts_S3x256x8960_S6x128x70x128

/-- Each tile's largest absolute value. -/
def tileMax (d : FVec Ideal S6x128x70x128 .f32) : FVec Ideal S6x70 .f32 :=
  Host.reduce FloatOps.maximumf (Host.absf d) (constant S_ .f32 0xFF800000#32) reducesTo_S6x128x70x128_S6x70_d1_3 h_S_

/-- The largest of all. -/
def allMax (a : FVec Ideal S6x70 .f32) : FVec Ideal S_ .f32 :=
  Host.reduce FloatOps.maximumf a (constant S_ .f32 0xFF800000#32) reducesTo_S6x70_S_d0_1 h_S_

/-- Each tile's ratio. -/
def ratios (a : FVec Ideal S6x70 .f32) : FVec Ideal S6x70 .f32 :=
  mulf a (broadcastInDim S6x70 ![] bcast_S_S6x70 (constant S_ .f32 0x37924925#32))

/-- Each tile's exponent. -/
def exps (v : FVec Ideal S6x70 .f32) : FVec Ideal S6x70 .f32 :=
  select (cmpf .olt v (broadcastInDim S6x70 ![] bcast_S_S6x70 (constant S_ .f32 0x00800000#32)))
    (broadcastInDim S6x70 ![] bcast_S_S6x70 (id (constant (F := Ideal) S_ .f32 0x00000000#32)))
    (addf (Host.floor (Host.divf (Host.log v) (broadcastInDim S6x70 ![] bcast_S_S6x70 (Host.log (constant S_ .f32 0x40000000#32)))))
      (broadcastInDim S6x70 ![] bcast_S_S6x70 (constant S_ .f32 0x3F800000#32)))

/-- Two to an exponent. -/
def powers (e : FVec Ideal S6x70 .f32) : FVec Ideal S6x70 .f32 :=
  Host.powf (broadcastInDim S6x70 ![] bcast_S_S6x70 (constant S_ .f32 0x40000000#32)) e

/-- The clipped tiles, joined. -/
def quantised (d : FVec Ideal S6x128x70x128 .f32) (inv : FVec Ideal S6x70 .f32) : FVec Ideal S768x8960 .f32 :=
  shapeCast S768x8960
    (minimumf (broadcastInDim S6x128x70x128 ![] bcast_S_S6x128x70x128 (id (constant (F := Ideal) S_ .f32 0x47600000#32)))
      (maximumf (broadcastInDim S6x128x70x128 ![] bcast_S_S6x128x70x128 (id (constant (F := Ideal) S_ .f32 0xC7600000#32)))
        (mulf d (broadcastInDim S6x128x70x128 ![0, 1, 2, 3] bcast_S6x1x70x1_S6x128x70x128_0_1_2_3
          (broadcastInDim S6x1x70x1 ![0, 2] bcast_S6x70_S6x1x70x1_0_2 inv)))))
    shapeCasts_S6x128x70x128_S768x8960

/-- The scales, one per element. -/
def spread (s : FVec Ideal S6x70 .f32) : FVec Ideal S768x8960 .bf16 :=
  shapeCast S768x8960
    (broadcastInDim S6x128x70x128 ![0, 1, 2, 3] bcast_S6x1x70x1_S6x128x70x128_0_1_2_3
      (broadcastInDim S6x1x70x1 ![0, 2] bcast_S6x70_S6x1x70x1_0_2 (truncf .bf16 s bitsLt_bf16_f32)))
    shapeCasts_S6x128x70x128_S768x8960

/-- A tile element is an element of the gradient. -/
theorem tiles_apply (dy : FVec Ideal S3x256x8960 .bf16) (r : Fin 6) (p : Fin 128) (J : Fin 70) (q : Fin 128) :
    tiles dy (ix4 r p J q) = dy (ix3 ⟨r / 2, by omega⟩ ⟨r % 2 * 128 + p, by omega⟩ ⟨J * 128 + q, by omega⟩) := by
  pointwise [tiles]

/-- The largest absolute value of a tile. -/
theorem tileMax_apply (d : FVec Ideal S6x128x70x128 .f32) (r : Fin 6) (J : Fin 70) :
    tileMax d (ix2 r J) = absMax fun p q => d (ix4 r p J q) := by
  pointwise [tileMax]
  refine (Finset.fold_filter_eq_fold_of_fiber max _ (fun k : Fin 128 × Fin 128 => (ix4 r k.1 J k.2 : S6x128x70x128.Idx)) ?_ ?_ _ _).trans ?_
  · rintro ⟨a, b⟩ ⟨a', b'⟩ e
    exact Prod.ext (congrFun e 1) (congrFun e 3)
  · intro i
    constructor
    · intro e
      refine ⟨(i 1, i 3), ?_⟩
      funext a
      apply Fin.ext
      match a with
      | ⟨0, _⟩ => exact (congrArg Fin.val (congrFun e 0)).symm
      | ⟨1, _⟩ => rfl
      | ⟨2, _⟩ => exact (congrArg Fin.val (congrFun e 1)).symm
      | ⟨3, _⟩ => rfl
    · rintro ⟨k, rfl⟩
      funext b
      apply Fin.ext
      match b with
      | ⟨0, _⟩ => rfl
      | ⟨1, _⟩ => rfl
  · rw [ofBits_negInf_f32, fold_max_bot]
    exact iSup_prod

/-- The largest of all tiles. -/
theorem allMax_apply (a : FVec Ideal S6x70 .f32) (i : S_.Idx) : allMax a i = ⨆ r, ⨆ J, a (ix2 r J) := by
  obtain rfl : i = ix0 := funext fun a => a.elim0
  pointwise [allMax]
  rw [ofBits_negInf_f32, fold_max_bot]
  exact iSup_prod

/-- A tile's ratio. -/
theorem ratios_apply (a : FVec Ideal S6x70 .f32) (r : Fin 6) (J : Fin 70) : ratios a (ix2 r J) = ratio (a (ix2 r J)) := by
  pointwise [ratios]
  rfl

/-- A tile's exponent. -/
theorem exps_apply (v : FVec Ideal S6x70 .f32) (r : Fin 6) (J : Fin 70) : exps v (ix2 r J) = refExp (v (ix2 r J)) := by
  have h0 : (id (constant (F := Ideal) S_ .f32 0#32) : S_.Idx → EReal) ix0 = 0 := by
    show (constant (F := Ideal) S_ .f32 0#32 : S_.Idx → EReal) ix0 = 0
    pointwise
  pointwise [exps]
  rw [h0]
  rfl

/-- Two to an exponent, at a tile. -/
theorem powers_apply (e : FVec Ideal S6x70 .f32) (r : Fin 6) (J : Fin 70) :
    powers e (ix2 r J) = Ideal.pow (Ideal.ofBits .f32 0x40000000#32) (e (ix2 r J)) := by
  pointwise [powers]

/-- Two to the negated exponent, at a tile. -/
theorem invs_apply (e : FVec Ideal S6x70 .f32) (r : Fin 6) (J : Fin 70) :
    powers (Host.negf e) (ix2 r J) = Ideal.pow (Ideal.ofBits .f32 0x40000000#32) (-e (ix2 r J)) := by
  pointwise [powers]

/-- A clipped value, at a row and a column. -/
theorem quantised_apply (d : FVec Ideal S6x128x70x128 .f32) (inv : FVec Ideal S6x70 .f32) (R : Fin 768) (C : Fin 8960) :
    quantised d inv (ix2 R C)
      = clip (d (ix4 (rowTile R) ⟨R % 128, by omega⟩ (colTile C) ⟨C % 128, by omega⟩) * inv (ix2 (rowTile R) (colTile C))) := by
  pointwise [quantised]
  rfl

/-- A scale, at a row and a column. -/
theorem spread_apply (s : FVec Ideal S6x70 .f32) (R : Fin 768) (C : Fin 8960) : spread s (ix2 R C) = s (ix2 (rowTile R) (colTile C)) := by
  pointwise [spread]
  rfl

end

end Cert.BackwardRef
-- ==== Proof.RefReads.lean ====
module

public import proofs.«01_k».proof.Proof.RefHost

/-!
# What the reference's host buffers hold

Each buffer the reference's product call reads, and each result the host computes, is one of the quantiser's
stages over the arguments.
-/

@[expose] public section

set_option maxRecDepth 16384

noncomputable section

namespace Cert.BackwardRef

open Cert.ReferenceIdeal Cert.ReferenceIdeal.Gen Cert.Backward Idealize.ShloMosaic Idealize.ShloMosaic.TcCoe Idealize.SL.Sem

variable (m : (ℓ : Loc nD τ sig) → Buf (Elt Ideal) ℓ) (c : Dev nD)

/-- The gradient as launched. -/
def dyArg : FVec Ideal S3x256x8960 .bf16 := m ((c : Thread nD τ).loc main_arg0)

/-- The tiles' exponents. -/
def expsOf (dy : FVec Ideal S3x256x8960 .bf16) : FVec Ideal S6x70 .f32 := exps (ratios (tileMax (tiles dy)))

/-- The clipped gradient the products read. -/
theorem V_codes : (V m c main_v26 : FVec Ideal S768x8960 .f32) = quantised (tiles (dyArg m c)) (powers (Host.negf (expsOf (dyArg m c)))) := by
  unfold V
  after_reads_simp
  simp -implicitDefEqProofs only [StableHlo.TRef.toBuf, StableHlo.TRef.ofBuf, cast_cast, cast_eq]
  rfl

/-- The scales the products read. -/
theorem V_spread : (V m c main_v30 : FVec Ideal S768x8960 .bf16) = spread (powers (expsOf (dyArg m c))) := by
  unfold V
  after_reads_simp
  simp -implicitDefEqProofs only [StableHlo.TRef.toBuf, StableHlo.TRef.ofBuf, cast_cast, cast_eq]
  rfl

/-- The largest absolute value. -/
theorem V_amax : (V m c main_v31 : FVec Ideal S1 .f32) = shapeCast S1 (allMax (tileMax (tiles (dyArg m c)))) shapeCasts_S_S1 := by
  unfold V
  after_reads_simp
  rfl

/-- The scales, in their shape. -/
theorem V_scales : (V m c main_v32 : FVec Ideal S3x2x70 .f32) = shapeCast S3x2x70 (powers (expsOf (dyArg m c))) shapeCasts_S6x70_S3x2x70 := by
  unfold V
  after_reads_simp
  simp -implicitDefEqProofs only [StableHlo.TRef.toBuf, StableHlo.TRef.ofBuf, cast_cast, cast_eq]
  rfl

end Cert.BackwardRef
-- ==== Proof.RefPoint.lean ====
module

public import proofs.«01_k».proof.Proof.Gen.ReferenceIdeal.Value
public import Idealize.ShloMosaic.Lib.Ring
public import Idealize.ShloMosaic.Lib.Pipeline.ReadBack
public import Idealize.ShloMosaic.Lib.Pipeline.ValueKit

/-!
# What the reference's product call leaves

The call has no grid: each window is its whole array, and the body stores each result once.
-/

@[expose] public section

set_option maxRecDepth 16384

noncomputable section

namespace Cert.BackwardRef

open Cert.ReferenceIdeal Cert.ReferenceIdeal.Gen Idealize.ShloMosaic Idealize.ShloMosaic.TcCoe Idealize.SL.Sem

variable (m : (ℓ : Loc nD τ sig) → Buf (Elt Ideal) ℓ) (c : Dev nD)

/-- An array of one element has one index. -/
theorem idx1_eq (i j : S1.Idx) : i = j := by
  funext a
  fin_cases a
  have h1 := (i 0).isLt
  have h2 := (j 0).isLt
  have : S1.size 0 = 1 := rfl
  exact Fin.ext (by show (i 0).val = (j 0).val; omega)

section
variable [Cert.ReferenceIdeal.Facts₀]

/-- The stored codes, at an element. -/
theorem codesOf_apply (q : FVec Ideal S768x8960 .f32) (R : Fin 768) (C : Fin 8960) :
    (k0_pay1 (F := Ideal) q : S768x8960.Idx → EReal) (ix2 R C) = q (ix2 R C) := by
  pointwise [k0_pay1]

/-- The first product, scaled, at an element. -/
theorem dxOf_apply (q : FVec Ideal S768x8960 .f32) (s : FVec Ideal S768x8960 .bf16) (w : FVec Ideal S8960x1536 .fp8e4m3) (z : EReal)
    (R : Fin 768) (k : Fin 1536) :
    (k0_pay3 (F := Ideal) q s w z : S768x1536.Idx → EReal) (ix2 R k) = (∑ C : Fin 8960, q (ix2 R C) * s (ix2 R C) * w (ix2 C k)) * z := by
  pointwise [k0_pay3, k0_pay2, k0_pay1]

/-- The accumulated gradient, at an element. -/
theorem mgoOf_apply (q : FVec Ideal S768x8960 .f32) (s : FVec Ideal S768x8960 .bf16) (x : FVec Ideal S768x1536 .fp8e4m3) (g : FVec Ideal S8960x1536 .f32) (z : EReal)
    (C : Fin 8960) (k : Fin 1536) :
    (k0_pay4 (F := Ideal) q s x g z : S8960x1536.Idx → EReal) (ix2 C k) = g (ix2 C k) + (∑ R : Fin 768, q (ix2 R C) * s (ix2 R C) * x (ix2 R k)) * z := by
  pointwise [k0_pay4, k0_pay2, k0_pay1]

end

/-- Window 0 is its whole array, whatever the array holds; -/
theorem read0 (t : Fin cfg0.N) (A : S768x8960.Idx → EReal) :
    (((cfg0.win 0).blk t).view.read (Elt Ideal) A : S768x8960.Idx → EReal) = A := by
  have e : ∀ a, win0_0.index t a = 0 := fun _ => rfl
  funext i
  blk_simp
  refine congrArg A ?_
  blk_ext [e]
  all_goals omega

/-- so its block is the operand. -/
theorem blk0 (t : Fin cfg0.N) : (iblk m c 0 t : S768x8960.Idx → EReal) = (V m c main_v26 : S768x8960.Idx → EReal) :=
  read0 t _

/-- Window 1 is its whole array, whatever the array holds; -/
theorem read1 (t : Fin cfg0.N) (A : S768x8960.Idx → EReal) :
    (((cfg0.win 1).blk t).view.read (Elt Ideal) A : S768x8960.Idx → EReal) = A := by
  have e : ∀ a, win0_1.index t a = 0 := fun _ => rfl
  funext i
  blk_simp
  refine congrArg A ?_
  blk_ext [e]
  all_goals omega

/-- so its block is the operand. -/
theorem blk1 (t : Fin cfg0.N) : (iblk m c 1 t : S768x8960.Idx → EReal) = (V m c main_v30 : S768x8960.Idx → EReal) :=
  read1 t _

/-- Window 2 is its whole array, whatever the array holds; -/
theorem read2 (t : Fin cfg0.N) (A : S768x1536.Idx → EReal) :
    (((cfg0.win 2).blk t).view.read (Elt Ideal) A : S768x1536.Idx → EReal) = A := by
  have e : ∀ a, win0_2.index t a = 0 := fun _ => rfl
  funext i
  blk_simp
  refine congrArg A ?_
  blk_ext [e]
  all_goals omega

/-- so its block is the operand. -/
theorem blk2 (t : Fin cfg0.N) : (iblk m c 2 t : S768x1536.Idx → EReal) = (V m c main_v33 : S768x1536.Idx → EReal) :=
  read2 t _

/-- Window 3 is its whole array, whatever the array holds; -/
theorem read3 (t : Fin cfg0.N) (A : S1.Idx → EReal) :
    (((cfg0.win 3).blk t).view.read (Elt Ideal) A : S1.Idx → EReal) = A := by
  have e : ∀ a, win0_3.index t a = 0 := fun _ => rfl
  funext i
  blk_simp
  refine congrArg A ?_
  exact idx1_eq _ _

/-- so its block is the operand. -/
theorem blk3 (t : Fin cfg0.N) : (iblk m c 3 t : S1.Idx → EReal) = (V m c main_v34 : S1.Idx → EReal) :=
  read3 t _

/-- Window 4 is its whole array, whatever the array holds; -/
theorem read4 (t : Fin cfg0.N) (A : S8960x1536.Idx → EReal) :
    (((cfg0.win 4).blk t).view.read (Elt Ideal) A : S8960x1536.Idx → EReal) = A := by
  have e : ∀ a, win0_4.index t a = 0 := fun _ => rfl
  funext i
  blk_simp
  refine congrArg A ?_
  blk_ext [e]
  all_goals omega

/-- so its block is the operand. -/
theorem blk4 (t : Fin cfg0.N) : (iblk m c 4 t : S8960x1536.Idx → EReal) = (V m c main_arg3 : S8960x1536.Idx → EReal) :=
  read4 t _

/-- Window 5 is its whole array, whatever the array holds; -/
theorem read5 (t : Fin cfg0.N) (A : S1.Idx → EReal) :
    (((cfg0.win 5).blk t).view.read (Elt Ideal) A : S1.Idx → EReal) = A := by
  have e : ∀ a, win0_5.index t a = 0 := fun _ => rfl
  funext i
  blk_simp
  refine congrArg A ?_
  exact idx1_eq _ _

/-- so its block is the operand. -/
theorem blk5 (t : Fin cfg0.N) : (iblk m c 5 t : S1.Idx → EReal) = (V m c main_v35 : S1.Idx → EReal) :=
  read5 t _

/-- Window 6 is its whole array, whatever the array holds; -/
theorem read6 (t : Fin cfg0.N) (A : S8960x1536.Idx → EReal) :
    (((cfg0.win 6).blk t).view.read (Elt Ideal) A : S8960x1536.Idx → EReal) = A := by
  have e : ∀ a, win0_6.index t a = 0 := fun _ => rfl
  funext i
  blk_simp
  refine congrArg A ?_
  blk_ext [e]
  all_goals omega

/-- so its block is the operand. -/
theorem blk6 (t : Fin cfg0.N) : (iblk m c 6 t : S8960x1536.Idx → EReal) = (V m c main_arg5 : S8960x1536.Idx → EReal) :=
  read6 t _

/-- The codes' block. -/
def blkQ (t : Fin cfg0.N) : FVec Ideal S768x8960 .f32 := iblk m c 0 t

/-- The scales' block. -/
def blkS (t : Fin cfg0.N) : FVec Ideal S768x8960 .bf16 := iblk m c 1 t

/-- The input's block. -/
def blkX (t : Fin cfg0.N) : FVec Ideal S768x1536 .fp8e4m3 := iblk m c 2 t

/-- The input's scale. -/
def blkXs (t : Fin cfg0.N) : FVec Ideal S1 .f32 := iblk m c 3 t

/-- The weight's block. -/
def blkW (t : Fin cfg0.N) : FVec Ideal S8960x1536 .fp8e4m3 := iblk m c 4 t

/-- The weight's scale. -/
def blkWs (t : Fin cfg0.N) : FVec Ideal S1 .f32 := iblk m c 5 t

/-- The accumulated gradient's block. -/
def blkM (t : Fin cfg0.N) : FVec Ideal S8960x1536 .f32 := iblk m c 6 t

/-- The first product the body leaves. -/
theorem out_dx (t : Fin cfg0.N) : (outsAt0 m c t).1 = k0_pay3 (F := Ideal) (blkQ m c t) (blkS m c t) (blkW m c t) (blkWs m c t (ix1 0)) := by
  dsimp only [outsAt0]
  frame_open
  frame_out
  simp only [read_unread_whole]
  exact congrArg (fun i : S1.Idx => k0_pay3 (F := Ideal) (blkQ m c t) (blkS m c t) (blkW m c t) (blkWs m c t i)) (idx1_eq _ (ix1 0))

/-- The accumulated gradient the body leaves. -/
theorem out_mgo (t : Fin cfg0.N) :
    (outsAt0 m c t).2.1 = k0_pay4 (F := Ideal) (blkQ m c t) (blkS m c t) (blkX m c t) (blkM m c t) (blkXs m c t (ix1 0)) := by
  dsimp only [outsAt0]
  frame_open
  frame_out
  simp only [read_unread_whole]
  exact congrArg (fun i : S1.Idx => k0_pay4 (F := Ideal) (blkQ m c t) (blkS m c t) (blkX m c t) (blkM m c t) (blkXs m c t i)) (idx1_eq _ (ix1 0))

/-- The codes the body leaves. -/
theorem out_codes (t : Fin cfg0.N) : (outsAt0 m c t).2.2 = k0_pay1 (F := Ideal) (blkQ m c t) := by
  dsimp only [outsAt0]
  frame_open
  frame_out
  simp only [read_unread_whole]
  rfl

end Cert.BackwardRef
-- ==== Proof.RefArrays.lean ====
module

public import proofs.«01_k».proof.Proof.RefReads
public import proofs.«01_k».proof.Proof.RefPoint
public import proofs.«01_k».proof.Proof.Operands

/-!
# The arrays the reference leaves

Each of the reference's five results, as a function of its arguments.
-/

@[expose] public section

set_option maxRecDepth 16384

noncomputable section

namespace Cert.BackwardRef

open Cert.ReferenceIdeal Cert.ReferenceIdeal.Gen Cert.Backward Idealize.ShloMosaic Idealize.ShloMosaic.TcCoe Idealize.SL.Sem

/-- The gradient's tokens. -/
def gradOf (dy : FVec Ideal S3x256x8960 .bf16) : Fin 768 → Fin 8960 → EReal := tokens fun b s C => dy (ix3 b s C)

section
variable [Cert.ReferenceIdeal.Facts₀] (dy : FVec Ideal S3x256x8960 .bf16)

/-- An element of a tile is an element of the gradient. -/
theorem tiles_grad (r : Fin 6) (p : Fin 128) (J : Fin 70) (q : Fin 128) :
    tiles dy (ix4 r p J q) = gtile (gradOf dy) r J p q := by
  rw [tiles_apply]
  unfold gtile gradOf tokens row gcol
  have h1 : (⟨r / 2, by omega⟩ : Fin 3) = ⟨(128 * r.val + p.val) / 256, by omega⟩ := Fin.ext (by show r.val / 2 = (128 * r.val + p.val) / 256; omega)
  have h2 : (⟨r % 2 * 128 + p, by omega⟩ : Fin 256) = ⟨(128 * r.val + p.val) % 256, by omega⟩ :=
    Fin.ext (by show r.val % 2 * 128 + p.val = (128 * r.val + p.val) % 256; omega)
  have h3 : (⟨J * 128 + q, by omega⟩ : Fin 8960) = ⟨128 * J.val + q.val, by omega⟩ :=
    Fin.ext (by show J.val * 128 + q.val = 128 * J.val + q.val; omega)
  rw [h1, h2, h3]

/-- A tile's largest absolute value. -/
theorem tileMax_grad (r : Fin 6) (J : Fin 70) : tileMax (tiles dy) (ix2 r J) = absMax (gtile (gradOf dy) r J) := by
  rw [tileMax_apply]
  exact congrArg absMax (funext fun p => funext fun q => tiles_grad dy r p J q)

/-- A tile's exponent. -/
theorem expsOf_apply (r : Fin 6) (J : Fin 70) : expsOf dy (ix2 r J) = refExp (tileRatio (gradOf dy) r J) := by
  unfold expsOf
  rw [exps_apply, ratios_apply, tileMax_grad]
  rfl

/-- The element of a tile at a row and a column. -/
theorem tiles_at (R : Fin 768) (C : Fin 8960) :
    tiles dy (ix4 (rowTile R) ⟨R % 128, by omega⟩ (colTile C) ⟨C % 128, by omega⟩) = gradOf dy R C := by
  rw [tiles_grad]
  unfold gtile
  rw [show row (rowTile R) ⟨R % 128, by omega⟩ = R from row_rowTile R,
    show gcol (colTile C) ⟨C % 128, by omega⟩ = C from Fin.ext (by show 128 * (C.val / 128) + C.val % 128 = C.val; omega)]

/-- The quantised gradient, at an element. -/
theorem quantised_grad (R : Fin 768) (C : Fin 8960) :
    quantised (tiles dy) (powers (Host.negf (expsOf dy))) (ix2 R C) = code refInv (gradOf dy) R C := by
  rw [quantised_apply, invs_apply, expsOf_apply, tiles_at]
  rfl

/-- The scales, one per element. -/
theorem spread_grad (R : Fin 768) (C : Fin 8960) :
    spread (powers (expsOf dy)) (ix2 R C) = refScale (tileRatio (gradOf dy) (rowTile R) (colTile C)) := by
  rw [spread_apply, powers_apply, expsOf_apply]
  rfl

/-- The largest absolute value of the gradient. -/
theorem amax_grad : (shapeCast S1 (allMax (tileMax (tiles dy))) shapeCasts_S_S1 : FVec Ideal S1 .f32) = fun _ => amaxAll (gradOf dy) := by
  funext i
  refine (allMax_apply (tileMax (tiles dy)) _).trans ?_
  simp only [tileMax_grad]
  rfl

/-- The scales, their rows counted in pairs. -/
theorem scales_grad : (shapeCast S3x2x70 (powers (expsOf dy)) shapeCasts_S6x70_S3x2x70 : FVec Ideal S3x2x70 .f32)
    = fun i => scaleAt refScale (gradOf dy) (i 0) (i 1) (i 2) := by
  funext i
  obtain ⟨b, h, l, rfl⟩ : ∃ (b : Fin 3) (h : Fin 2) (l : Fin 70), i = ix3 b h l :=
    ⟨i 0, i 1, i 2, by funext k; fin_cases k <;> rfl⟩
  have e : (shapeCast S3x2x70 (powers (expsOf dy)) shapeCasts_S6x70_S3x2x70 : FVec Ideal S3x2x70 .f32) (ix3 b h l)
      = powers (expsOf dy) (ix2 ⟨b * 2 + h, by omega⟩ l) := by
    generalize powers (expsOf dy) = x
    pointwise
  rw [e, powers_apply, expsOf_apply, show (⟨b * 2 + h, by omega⟩ : Fin 6) = ⟨2 * b + h, by omega⟩ from
    Fin.ext (by show b.val * 2 + h.val = 2 * b.val + h.val; omega)]
  rfl

/-- The input's tokens. -/
theorem input_tokens (x : FVec Ideal S3x256x1536 .fp8e4m3) (R : Fin 768) (k : Fin 1536) :
    (shapeCast S768x1536 x shapeCasts_S3x256x1536_S768x1536 : FVec Ideal S768x1536 .fp8e4m3) (ix2 R k)
      = tokens (fun b s k => x (ix3 b s k)) R k := by
  unfold tokens
  pointwise

end

variable (m : (ℓ : Loc nD τ sig) → Buf (Elt Ideal) ℓ) (c : Dev nD)

/-! ### The operands -/

/-- The gradient. -/
def argD : Fin 768 → Fin 8960 → EReal := gradOf (dyArg m c)

/-- The input. -/
def argX : Fin 768 → Fin 1536 → EReal :=
  tokens fun b s k => (m ((c : Thread nD τ).loc main_arg1) : S3x256x1536.Idx → EReal) (ix3 b s k)

/-- The input's scale. -/
def argXs : EReal := (m ((c : Thread nD τ).loc main_arg2) : S_.Idx → EReal) ix0

/-- The weight's codes. -/
def argW (C : Fin 8960) (k : Fin 1536) : EReal := (m ((c : Thread nD τ).loc main_arg3) : S8960x1536.Idx → EReal) (ix2 C k)

/-- The weight's scale. -/
def argWs : EReal := (m ((c : Thread nD τ).loc main_arg4) : S_.Idx → EReal) ix0

/-- The accumulated gradient. -/
def argM (C : Fin 8960) (k : Fin 1536) : EReal := (m ((c : Thread nD τ).loc main_arg5) : S8960x1536.Idx → EReal) (ix2 C k)

/-- The products' input is the argument, reshaped; -/
theorem V_x : (V m c main_v33 : FVec Ideal S768x1536 .fp8e4m3)
    = shapeCast S768x1536 (m ((c : Thread nD τ).loc main_arg1) : FVec Ideal S3x256x1536 .fp8e4m3) shapeCasts_S3x256x1536_S768x1536 := by
  unfold V
  after_reads_simp
  rfl

/-- its scale -/
theorem V_xs : (V m c main_v34 : FVec Ideal S1 .f32)
    = shapeCast S1 (m ((c : Thread nD τ).loc main_arg2) : FVec Ideal S_ .f32) shapeCasts_S_S1 := by
  unfold V
  after_reads_simp
  rfl

/-- and the weight's are arrays of one element. -/
theorem V_ws : (V m c main_v35 : FVec Ideal S1 .f32)
    = shapeCast S1 (m ((c : Thread nD τ).loc main_arg4) : FVec Ideal S_ .f32) shapeCasts_S_S1 := by
  unfold V
  after_reads_simp
  rfl

variable (t : Fin cfg0.N)

/-- The block of clipped values. -/
theorem blkQ_apply (R : Fin 768) (C : Fin 8960) : blkQ m c t (ix2 R C) = code refInv (argD m c) R C :=
  (congrFun (blk0 m c t) (ix2 R C)).trans ((congrFun (V_codes m c) (ix2 R C)).trans (quantised_grad (dyArg m c) R C))

/-- The block of scales. -/
theorem blkS_apply (R : Fin 768) (C : Fin 8960) :
    blkS m c t (ix2 R C) = refScale (tileRatio (argD m c) (rowTile R) (colTile C)) :=
  (congrFun (blk1 m c t) (ix2 R C)).trans ((congrFun (V_spread m c) (ix2 R C)).trans (spread_grad (dyArg m c) R C))

/-- The block of the input. -/
theorem blkX_apply (R : Fin 768) (k : Fin 1536) : blkX m c t (ix2 R k) = argX m c R k :=
  (congrFun (blk2 m c t) (ix2 R k)).trans ((congrFun (V_x m c) (ix2 R k)).trans
    (input_tokens (m ((c : Thread nD τ).loc main_arg1) : FVec Ideal S3x256x1536 .fp8e4m3) R k))

/-- The input's scale. -/
theorem blkXs_apply : blkXs m c t (ix1 0) = argXs m c := by
  refine (congrFun (blk3 m c t) (ix1 0)).trans ((congrFun (V_xs m c) (ix1 0)).trans ?_)
  exact congrArg (m ((c : Thread nD τ).loc main_arg2) : S_.Idx → EReal) (funext fun a => a.elim0)

/-- The block of the weight's codes. -/
theorem blkW_apply (C : Fin 8960) (k : Fin 1536) : blkW m c t (ix2 C k) = argW m c C k :=
  (congrFun (blk4 m c t) (ix2 C k)).trans (congrFun (V_main_arg3 m c) (ix2 C k))

/-- The weight's scale. -/
theorem blkWs_apply : blkWs m c t (ix1 0) = argWs m c := by
  refine (congrFun (blk5 m c t) (ix1 0)).trans ((congrFun (V_ws m c) (ix1 0)).trans ?_)
  exact congrArg (m ((c : Thread nD τ).loc main_arg4) : S_.Idx → EReal) (funext fun a => a.elim0)

/-- The block of the accumulated gradient. -/
theorem blkM_apply (C : Fin 8960) (k : Fin 1536) : blkM m c t (ix2 C k) = argM m c C k :=
  (congrFun (blk6 m c t) (ix2 C k)).trans (congrFun (V_main_arg5 m c) (ix2 C k))

/-! ### The results -/

/-- The call's one point. -/
def only : Fin cfg0.N := ⟨0, by decide⟩

/-- The codes the reference leaves. -/
theorem final_codes : (dats m 0 c).arrAt 9 cfg0.N = fun i : S768x8960.Idx => code refInv (argD m c) (i 0) (i 1) := by
  refine (dats m 0 c).arrAt_eq_of_after_last 9 only (by decide +kernel) _ fun j => ?_
  blk_simp
  rw [after0_9, out_codes]
  obtain ⟨a, b, rfl⟩ : ∃ (a : Fin 768) (b : Fin 8960), j = ix2 a b := ⟨j 0, j 1, by funext k; fin_cases k <;> rfl⟩
  refine (codesOf_apply _ a b).trans ?_
  rw [blkQ_apply]
  rfl

/-- The input's gradient the reference leaves. -/
theorem final_dx : (dats m 0 c).arrAt 7 cfg0.N
    = fun i : S768x1536.Idx => dxAt refScale refInv (argD m c) (argW m c) (argWs m c) (i 0) (i 1) := by
  refine (dats m 0 c).arrAt_eq_of_after_last 7 only (by decide +kernel) _ fun j => ?_
  blk_simp
  rw [after0_7, out_dx]
  obtain ⟨a, b, rfl⟩ : ∃ (a : Fin 768) (b : Fin 1536), j = ix2 a b := ⟨j 0, j 1, by funext k; fin_cases k <;> rfl⟩
  refine (dxOf_apply _ _ _ _ a b).trans ?_
  rw [blkWs_apply]
  simp only [blkQ_apply, blkS_apply, blkW_apply]
  rfl

/-- The accumulated gradient the reference leaves. -/
theorem final_mgo : (dats m 0 c).arrAt 8 cfg0.N
    = fun i : S8960x1536.Idx => mgoAt refScale refInv (argD m c) (argX m c) (argXs m c) (argM m c) (i 0) (i 1) := by
  refine (dats m 0 c).arrAt_eq_of_after_last 8 only (by decide +kernel) _ fun j => ?_
  blk_simp
  rw [after0_8, out_mgo]
  obtain ⟨a, b, rfl⟩ : ∃ (a : Fin 8960) (b : Fin 1536), j = ix2 a b := ⟨j 0, j 1, by funext k; fin_cases k <;> rfl⟩
  refine (mgoOf_apply _ _ _ _ _ a b).trans ?_
  rw [blkXs_apply, blkM_apply]
  simp only [blkQ_apply, blkS_apply, blkX_apply]
  rfl

/-- The largest absolute value the reference leaves. -/
theorem final_amax : (V m c main_v31 : S1.Idx → EReal) = fun _ => amaxAll (argD m c) :=
  (V_amax m c).trans (amax_grad (dyArg m c))

/-- The tile scales the reference leaves. -/
theorem final_scales : (V m c main_v32 : S3x2x70.Idx → EReal) = fun i => scaleAt refScale (argD m c) (i 0) (i 1) (i 2) :=
  (V_scales m c).trans (scales_grad (dyArg m c))

end Cert.BackwardRef
-- ==== Proof.Bounded.lean ====
module

public import proofs.«01_k».proof.Proof.Operands
public import proofs.«01_k».proof.Proof.PowerOfTwo
public import proofs.«01_k».proof.Proof.Gen.Pre_dy_finite
public import Idealize.ShloMosaic.Lib.ReduceAll

/-!
# Under the precondition the two scales are the same

A gradient of finite bf16 values has real ratios far below `2 ^ 126`, where the kernel's powers of two are
the reference's; so every result of the one is the other's.
-/

@[expose] public section

set_option maxRecDepth 16384

noncomputable section

namespace Cert.Backward

open Idealize.ShloMosaic

/-- The largest finite bf16 value. -/
theorem ofBits_largest : Ideal.ofBits .f32 0x7F7F0000#32 = ((16711680 * (2 : ℝ) ^ (104 : ℤ) : ℝ) : EReal) := by
  simp only [Ideal.ofBits, Ideal.ieee]
  rw [if_neg (by decide), if_neg (by decide)]
  refine congrArg (fun x : ℝ => (x : EReal)) ?_
  rw [show (BitVec.extractLsb' 23 8 0x7F7F0000#32).toNat = 254 from by decide,
    show (BitVec.extractLsb' 0 23 0x7F7F0000#32).toNat = 8323072 from by decide,
    if_neg (by decide)]
  norm_num

/-- The factor of the ratio, one over 57344. -/
theorem ofBits_factor : Ideal.ofBits .f32 0x37924925#32 = ((9586981 * (2 : ℝ) ^ (-39 : ℤ) : ℝ) : EReal) := by
  simp only [Ideal.ofBits, Ideal.ieee]
  rw [if_neg (by decide), if_neg (by decide)]
  refine congrArg (fun x : ℝ => (x : EReal)) ?_
  rw [show (BitVec.extractLsb' 23 8 0x37924925#32).toNat = 111 from by decide,
    show (BitVec.extractLsb' 0 23 0x37924925#32).toNat = 1198373 from by decide,
    if_neg (by decide)]
  norm_num

/-- The ratio of a bounded tile is a real number from zero, below `2 ^ 126`. -/
theorem ratio_bounded (f : Fin 128 → Fin 128 → EReal)
    (hf : ∀ p q, max (f p q) (-(f p q)) ≤ Ideal.ofBits .f32 0x7F7F0000#32) :
    ∃ x : ℝ, 0 ≤ x ∧ x < (2 : ℝ) ^ (126 : ℤ) ∧ ratio (absMax f) = (x : EReal) := by
  have h0 := absMax_nonneg f
  have h1 : absMax f ≤ ((16711680 * (2 : ℝ) ^ (104 : ℤ) : ℝ) : EReal) := by
    rw [← ofBits_largest]
    exact iSup_le fun p => iSup_le fun q => hf p q
  obtain ⟨a, ha⟩ : ∃ a : ℝ, absMax f = (a : EReal) :=
    ⟨(absMax f).toReal, (EReal.coe_toReal (ne_top_of_le_ne_top (EReal.coe_ne_top _) h1)
      (ne_bot_of_le_ne_bot (by decide : (0 : EReal) ≠ ⊥) h0)).symm⟩
  rw [ha] at h0 h1
  have h0' : 0 ≤ a := by exact_mod_cast h0
  have h1' : a ≤ 16711680 * (2 : ℝ) ^ (104 : ℤ) := EReal.coe_le_coe_iff.mp h1
  refine ⟨a * (9586981 * (2 : ℝ) ^ (-39 : ℤ)), by positivity, ?_, ?_⟩
  · calc a * (9586981 * (2 : ℝ) ^ (-39 : ℤ)) ≤ 16711680 * (2 : ℝ) ^ (104 : ℤ) * (9586981 * (2 : ℝ) ^ (-39 : ℤ)) :=
        mul_le_mul_of_nonneg_right h1' (by positivity)
      _ < (2 : ℝ) ^ (126 : ℤ) := by norm_num
  · unfold ratio
    rw [ha, ofBits_factor, ← EReal.coe_mul]

/-! ### The results agree -/

section
variable {D : Fin 768 → Fin 8960 → EReal} (hD : ∀ R C, max (D R C) (-(D R C)) ≤ Ideal.ofBits .f32 0x7F7F0000#32)
include hD

/-- At every tile the kernel's scale and reciprocal scale are the reference's. -/
theorem tile_scales (r : Fin 6) (J : Fin 70) :
    kernelScale (tileRatio D r J) = refScale (tileRatio D r J) ∧ kernelInv (tileRatio D r J) = refInv (tileRatio D r J) := by
  obtain ⟨x, h0, hx, e⟩ := ratio_bounded (gtile D r J) fun p q => hD _ _
  unfold tileRatio
  rw [e]
  exact scales_agree h0 hx

/-- So the codes agree, -/
theorem code_agree (R : Fin 768) (C : Fin 8960) : code kernelInv D R C = code refInv D R C := by
  unfold code
  rw [(tile_scales hD _ _).2]

/-- the codes scaled back, -/
theorem deq_agree (R : Fin 768) (C : Fin 8960) : deq kernelScale kernelInv D R C = deq refScale refInv D R C := by
  unfold deq
  rw [code_agree hD, (tile_scales hD _ _).1]

/-- the input's gradient, -/
theorem dx_agree (W : Fin 8960 → Fin 1536 → EReal) (ws : EReal) (R : Fin 768) (k : Fin 1536) :
    dxAt kernelScale kernelInv D W ws R k = dxAt refScale refInv D W ws R k := by
  unfold dxAt
  simp only [deq_agree hD]

/-- the accumulated gradient -/
theorem mgo_agree (X : Fin 768 → Fin 1536 → EReal) (xs : EReal) (M : Fin 8960 → Fin 1536 → EReal) (C : Fin 8960) (k : Fin 1536) :
    mgoAt kernelScale kernelInv D X xs M C k = mgoAt refScale refInv D X xs M C k := by
  unfold mgoAt
  simp only [deq_agree hD]

/-- and the scales. -/
theorem scale_agree (b : Fin 3) (h : Fin 2) (J : Fin 70) : scaleAt kernelScale D b h J = scaleAt refScale D b h J :=
  (tile_scales hD _ J).1

end

/-! ### The precondition, read -/

/-- Under the precondition no element of the gradient is above the largest finite bf16 value. -/
theorem bounded_of_pre (x0 : FVec Ideal Cert.Pre_dy_finite.S3x256x8960 .bf16) (x1 : FVec Ideal Cert.Pre_dy_finite.S3x256x1536 .fp8e4m3)
    (x2 : FVec Ideal Cert.Pre_dy_finite.S_ .f32) (x3 : FVec Ideal Cert.Pre_dy_finite.S8960x1536 .fp8e4m3)
    (x4 : FVec Ideal Cert.Pre_dy_finite.S_ .f32) (x5 : FVec Ideal Cert.Pre_dy_finite.S8960x1536 .f32)
    (h : Cert.Pre_dy_finite.fn (F := Ideal) x0 x1 x2 x3 x4 x5 ix0 = 1#1) (i : Cert.Pre_dy_finite.S3x256x8960.Idx) :
    max (x0 i) (-(x0 i)) ≤ Ideal.ofBits .f32 0x7F7F0000#32 := by
  unfold Cert.Pre_dy_finite.fn at h
  have : Subsingleton Cert.Pre_dy_finite.S_.Idx := ⟨fun a b => funext fun k => k.elim0⟩
  have e := Host.reduce_andi_all _ _ _ _ _ h i
  have e' : Ideal.cmp .ole (max (x0 i) (-(x0 i))) (Ideal.ofBits .f32 0x7F7F0000#32) = 1#1 := e
  by_contra hc
  exact absurd e' (by simp [Ideal.cmp, hc])

end Cert.Backward
-- ==== Proof.Agree.lean ====
module

public import proofs.«01_k».proof.Defs
public import proofs.«01_k».proof.Proof.KernelArgs
public import proofs.«01_k».proof.Proof.RefArrays
public import proofs.«01_k».proof.Proof.Bounded

/-!
# The kernel's results are the reference's

Run on the same arguments, the kernel's five arrays are the reference's five, element by element.
-/

@[expose] public section

set_option maxRecDepth 16384

noncomputable section

namespace Cert.Agree

open Cert.Backward Idealize.ShloMosaic Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The reference's run leaves its five results. -/
theorem reference_run (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v36_0) = (Cert.ReferenceIdeal.Gen.dats m' 0 c).arrAt 7 Cert.ReferenceIdeal.cfg0.N
        ∧ r.2.mem ((c.tc : Thread Cert.ReferenceIdeal.nD Cert.ReferenceIdeal.τ).loc Cert.ReferenceIdeal.main_v36_1) = (Cert.ReferenceIdeal.Gen.dats m' 0 c).arrAt 8 Cert.ReferenceIdeal.cfg0.N
        ∧ r.2.mem ((c.tc : Thread Cert.ReferenceIdeal.nD Cert.ReferenceIdeal.τ).loc Cert.ReferenceIdeal.main_v31) = Cert.ReferenceIdeal.Gen.V m' c Cert.ReferenceIdeal.main_v31
        ∧ r.2.mem ((c.tc : Thread Cert.ReferenceIdeal.nD Cert.ReferenceIdeal.τ).loc Cert.ReferenceIdeal.main_v36_2) = (Cert.ReferenceIdeal.Gen.dats m' 0 c).arrAt 9 Cert.ReferenceIdeal.cfg0.N
        ∧ r.2.mem ((c.tc : Thread Cert.ReferenceIdeal.nD Cert.ReferenceIdeal.τ).loc Cert.ReferenceIdeal.main_v32) = Cert.ReferenceIdeal.Gen.V m' c Cert.ReferenceIdeal.main_v32
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run Cert.ReferenceIdeal.defs _ _).mono (fun r h c => ⟨Cert.ReferenceIdeal.Value.post7 m' r h c,
      Cert.ReferenceIdeal.Value.post8 m' r h c,
      ((h c).2 Cert.ReferenceIdeal.main_v31 (Pipeline.mem_restRefs_of Cert.ReferenceIdeal.main_v31 (by decide) (by decide))),
      Cert.ReferenceIdeal.Value.post9 m' r h c,
      ((h c).2 Cert.ReferenceIdeal.main_v32 (Pipeline.mem_restRefs_of Cert.ReferenceIdeal.main_v32 (by decide) (by decide))),
      Cert.ReferenceIdeal.Value.kept_main_arg0 m' r h c,
      Cert.ReferenceIdeal.Value.kept_main_arg1 m' r h c,
      Cert.ReferenceIdeal.Value.kept_main_arg2 m' r h c,
      Cert.ReferenceIdeal.Value.kept_main_arg3 m' r h c,
      Cert.ReferenceIdeal.Value.kept_main_arg4 m' r h c,
      Cert.ReferenceIdeal.Value.kept_main_arg5 m' r h c⟩)
    (Cert.ReferenceIdeal.Gen.run_main m' g')

section
variable (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))

/-! ### The operands are the same -/

include h0 in
/-- The gradient. -/
theorem same_D : Cert.BackwardRef.argD m' c = opD m c := by
  rw [opD_eq]
  exact congrArg (fun x : Cert.KernelIdeal.S3x256x8960.Idx → EReal => tokens fun b s C => x (ix3 b s C)) h0

include h1 in
/-- The input. -/
theorem same_X : Cert.BackwardRef.argX m' c = opX m c := by
  rw [opX_eq]
  exact congrArg (fun x : Cert.KernelIdeal.S3x256x1536.Idx → EReal => tokens fun b s k => x (ix3 b s k)) h1

include h2 in
/-- The input's scale. -/
theorem same_Xs : Cert.BackwardRef.argXs m' c = opXs m c := by
  rw [opXs_eq]
  exact congrArg (fun x : Cert.KernelIdeal.S_.Idx → EReal => x ix0) h2

include h3 in
/-- The weight's codes. -/
theorem same_W : Cert.BackwardRef.argW m' c = opW m c := by
  rw [opW_eq]
  exact congrArg (fun x : Cert.KernelIdeal.S8960x1536.Idx → EReal => fun C k => x (ix2 C k)) h3

include h4 in
/-- The weight's scale. -/
theorem same_Ws : Cert.BackwardRef.argWs m' c = opWs m c := by
  rw [opWs_eq]
  exact congrArg (fun x : Cert.KernelIdeal.S_.Idx → EReal => x ix0) h4

include h5 in
/-- The accumulated gradient before the call. -/
theorem same_M : Cert.BackwardRef.argM m' c = opM m c := by
  rw [opM_eq]
  exact congrArg (fun x : Cert.KernelIdeal.S8960x1536.Idx → EReal => fun C k => x (ix2 C k)) h5

/-- Under the precondition no element of the gradient is above the largest finite bf16 value. -/
theorem bounded (hpre : Cert.Pre_KernelIdeal_dy_finite m) (R : Fin 768) (C : Fin 8960) :
    max (opD m c R C) (-(opD m c R C)) ≤ Ideal.ofBits .f32 0x7F7F0000#32 := by
  rw [opD_eq]
  exact bounded_of_pre _ _ _ _ _ _ (congrFun (hpre c) ix0) _

variable (hpre : Cert.Pre_KernelIdeal_dy_finite m)

/-! ### The results are the same -/

include h0 h3 h4 hpre in
/-- The gradient with respect to the input. -/
theorem same_dx : (Cert.ReferenceIdeal.Gen.dats m' 0 c).arrAt 7 Cert.ReferenceIdeal.cfg0.N = dxArr m c := by
  rw [Cert.BackwardRef.final_dx, same_D m m' c h0, same_W m m' c h3, same_Ws m m' c h4]
  exact funext fun i => (dx_agree (bounded m c hpre) _ _ _ _).symm

include h0 h1 h2 h5 hpre in
/-- The accumulated gradient with respect to the weight. -/
theorem same_mgo : (Cert.ReferenceIdeal.Gen.dats m' 0 c).arrAt 8 Cert.ReferenceIdeal.cfg0.N = mgoArr m c := by
  rw [Cert.BackwardRef.final_mgo, same_D m m' c h0, same_X m m' c h1, same_Xs m m' c h2, same_M m m' c h5]
  exact funext fun i => (mgo_agree (bounded m c hpre) _ _ _ _ _).symm

include h0 in
/-- The gradient's largest absolute value. -/
theorem same_amax : (Cert.ReferenceIdeal.Gen.V m' c Cert.ReferenceIdeal.main_v31 : Cert.ReferenceIdeal.S1.Idx → EReal) = amaxArr m c := by
  rw [Cert.BackwardRef.final_amax, same_D m m' c h0]
  rfl

include h0 hpre in
/-- The codes. -/
theorem same_codes : (Cert.ReferenceIdeal.Gen.dats m' 0 c).arrAt 9 Cert.ReferenceIdeal.cfg0.N = codesArr m c := by
  rw [Cert.BackwardRef.final_codes, same_D m m' c h0]
  exact funext fun i => (code_agree (bounded m c hpre) _ _).symm

include h0 hpre in
/-- The scales of the tiles. -/
theorem same_scales : (Cert.ReferenceIdeal.Gen.V m' c Cert.ReferenceIdeal.main_v32 : Cert.ReferenceIdeal.S3x2x70.Idx → EReal) = scalesArr m c := by
  rw [Cert.BackwardRef.final_scales, same_D m m' c h0]
  exact funext fun i => (scale_agree (bounded m c hpre) _ _ _).symm

end

/-- THE VALUE CLAIM: under the precondition the kernel and the reference leave the same five results. -/
theorem algebraic : Cert.algebraic_KernelIdeal_ReferenceIdeal_pre_dy_finite := by
  intro m g m' g' hpre hargs
  refine ⟨fun c => dxArr m c, fun c => mgoArr m c, fun c => amaxArr m c, fun c => codesArr m c, fun c => scalesArr m c, ?_, ?_⟩
  · refine (θ_run Cert.KernelIdeal.defs _ _).mono (fun r h c => ?_) (Cert.KernelIdeal.Value.run_blocks m g)
    obtain ⟨a0, a1, a2, a3, a4, k⟩ := h c
    exact ⟨a0.trans (final_dx m c), a1.trans (final_mgo m c), a2.trans (final_amax m c), a3.trans (final_codes m c),
      a4.trans (final_scales m c), k⟩
  · refine (θ_run Cert.ReferenceIdeal.defs _ _).mono (fun r h c => ?_) (reference_run m' g')
    obtain ⟨a0, a1, a2, a3, a4, k⟩ := h c
    obtain ⟨h0, h1, h2, h3, h4, h5⟩ := hargs c
    exact ⟨a0.trans (same_dx m m' c h0 h3 h4 hpre), a1.trans (same_mgo m m' c h0 h1 h2 h5 hpre), a2.trans (same_amax m m' c h0),
      a3.trans (same_codes m m' c h0 hpre), a4.trans (same_scales m m' c h0 hpre), k⟩

end Cert.Agree
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.Pre_dy_finite
public import proofs.«01_k».proof.Proof.Agree

@[expose] public section

noncomputable section

namespace Cert.Proof

open Idealize.ShloMosaic Idealize.SL.Sem Cert.Kernel

/-- Every claim: the frames of the kernel and of the reference, with and without the precondition; that the
    idealization preserves the kernel; and that the kernel and the reference leave the same five results. -/
theorem claim : Cert.Claim := ⟨Cert.Kernel.Gen.facts, Cert.KernelIdeal.Gen.facts, Cert.ReferenceIdeal.Gen.facts, Cert.Pre_dy_finite.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  Cert.Agree.algebraic⟩

end Cert.Proof

end
